-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebook [hPre_finite_codebook : Cert.Pre_finite_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebook [hPre_finite_codebook : Cert.Pre_finite_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_codebook [hKernelIdeal : Cert.KernelIdeal.Facts] [hPre_finite_codebook : Cert.Pre_finite_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebook m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_codebook [hReferenceIdeal : Cert.ReferenceIdeal.Facts] [hPre_finite_codebook : Cert.Pre_finite_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.bf16_pack.Statement Cert.KernelIdeal.S1024x256

def algebraic_KernelIdeal_ReferenceIdeal_pre_finite_codebook [hKernelIdeal : Cert.KernelIdeal.Facts] [hReferenceIdeal : Cert.ReferenceIdeal.Facts] [hPre_finite_codebook : Cert.Pre_finite_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_codebook : Cert.Pre_finite_codebook.Facts),
    quiescent_Kernel (hKernel := hKernel)
    ∧ quiescent_KernelIdeal (hKernelIdeal := hKernelIdeal)
    ∧ quiescent_KernelIdeal_pre_finite_codebook (hKernelIdeal := hKernelIdeal) (hPre_finite_codebook := hPre_finite_codebook)
    ∧ quiescent_ReferenceIdeal (hReferenceIdeal := hReferenceIdeal)
    ∧ quiescent_ReferenceIdeal_pre_finite_codebook (hReferenceIdeal := hReferenceIdeal) (hPre_finite_codebook := hPre_finite_codebook)
    ∧ preserves_Kernel_KernelIdeal
    ∧ algebraic_KernelIdeal_ReferenceIdeal_pre_finite_codebook (hKernelIdeal := hKernelIdeal) (hReferenceIdeal := hReferenceIdeal) (hPre_finite_codebook := hPre_finite_codebook)
-- ==== Pre_finite_codebook.lean ====
abbrev S8192x256 : Shape := ⟨2, ![8192, 256]⟩
abbrev S512x512 : Shape := ⟨2, ![512, 512]⟩
abbrev S512x8192 : Shape := ⟨2, ![512, 8192]⟩
abbrev S8192 : Shape := ⟨1, ![8192]⟩
abbrev S1024x512 : Shape := ⟨2, ![1024, 512]⟩
abbrev S1024x256 : Shape := ⟨2, ![1024, 256]⟩
abbrev S64x32 : Shape := ⟨2, ![64, 32]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S8192x256 .f32) (main_arg1 : FVec F S512x512 .f32) (main_arg2 : FVec F S512x512 .f32) (main_arg3 : FVec F S512x512 .f32) (main_arg4 : FVec F S512x512 .f32) (main_arg5 : FVec F S512x512 .f32) (main_arg6 : FVec F S512x512 .f32) (main_arg7 : FVec F S512x8192 .f32) (main_arg8 : FVec F S8192 .f32) (main_arg9 : FVec F S1024x512 .f32) (main_arg10 : FVec F S1024x256 .f32) (main_arg11 : IVec S64x32 32) : IVec S_ 1 :=
  let main_v0 : FVec F S1024x256 .f32 := Host.absf main_arg10
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  main_v3
-- ==== Kernel.lean ====
abbrev S8192x256 : Shape := ⟨2, ![8192, 256]⟩
abbrev S512x512 : Shape := ⟨2, ![512, 512]⟩
abbrev S512x8192 : Shape := ⟨2, ![512, 8192]⟩
abbrev S8192 : Shape := ⟨1, ![8192]⟩
abbrev S1024x512 : Shape := ⟨2, ![1024, 512]⟩
abbrev S1024x256 : Shape := ⟨2, ![1024, 256]⟩
abbrev S64x32 : Shape := ⟨2, ![64, 32]⟩
abbrev S32x64 : Shape := ⟨2, ![32, 64]⟩
abbrev S_ : Shape := ⟨0, ![]⟩
abbrev S32x64x1 : Shape := ⟨3, ![32, 64, 1]⟩
abbrev S1 : Shape := ⟨1, ![1]⟩
abbrev S1x1x1 : Shape := ⟨3, ![1, 1, 1]⟩
abbrev S32x64x256 : Shape := ⟨3, ![32, 64, 256]⟩
abbrev S256x1024 : Shape := ⟨2, ![256, 1024]⟩
abbrev S1024 : Shape := ⟨1, ![1024]⟩
abbrev S1x1024 : Shape := ⟨2, ![1, 1024]⟩
abbrev S32x64x512 : Shape := ⟨3, ![32, 64, 512]⟩
abbrev S64x32x2 : Shape := ⟨3, ![64, 32, 2]⟩
abbrev S64x66 : Shape := ⟨2, ![64, 66]⟩
abbrev S64x1024 : Shape := ⟨2, ![64, 1024]⟩
abbrev S64x1 : Shape := ⟨2, ![64, 1]⟩
abbrev S64x512 : Shape := ⟨2, ![64, 512]⟩
abbrev S1x64x256 : Shape := ⟨3, ![1, 64, 256]⟩
abbrev S64x256 : Shape := ⟨2, ![64, 256]⟩
abbrev S64 : Shape := ⟨1, ![64]⟩
abbrev S1x64x512 : Shape := ⟨3, ![1, 64, 512]⟩
abbrev S64x1x1 : Shape := ⟨3, ![64, 1, 1]⟩
abbrev S64x1x2 : Shape := ⟨3, ![64, 1, 2]⟩
abbrev S1x8192 : Shape := ⟨2, ![1, 8192]⟩
abbrev S64x32x1x8192 : Shape := ⟨4, ![64, 32, 1, 8192]⟩
abbrev S1x512 : Shape := ⟨2, ![1, 512]⟩
abbrev S64x1x1x512 : Shape := ⟨4, ![64, 1, 1, 512]⟩
abbrev S64x32x8192 : Shape := ⟨3, ![64, 32, 8192]⟩
abbrev S64x32x512 : Shape := ⟨3, ![64, 32, 512]⟩
abbrev S64x32x2x256 : Shape := ⟨4, ![64, 32, 2, 256]⟩

abbrev nBuf : Space → Nat
  | .hbm => 53
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x8192, .f32⟩
  | .hbm, ⟨8, _⟩ => ⟨S8192, .f32⟩
  | .hbm, ⟨9, _⟩ => ⟨S1024x512, .f32⟩
  | .hbm, ⟨10, _⟩ => ⟨S1024x256, .f32⟩
  | .hbm, ⟨11, _⟩ => ⟨S64x32, .i32⟩
  | .hbm, ⟨12, _⟩ => ⟨S32x64, .i32⟩
  | .hbm, ⟨13, _⟩ => ⟨S_, .i32⟩
  | .hbm, ⟨14, _⟩ => ⟨S32x64, .i32⟩
  | .hbm, ⟨15, _⟩ => ⟨S32x64, .i1⟩
  | .hbm, ⟨16, _⟩ => ⟨S_, .i32⟩
  | .hbm, ⟨17, _⟩ => ⟨S32x64, .i32⟩
  | .hbm, ⟨18, _⟩ => ⟨S32x64, .i32⟩
  | .hbm, ⟨19, _⟩ => ⟨S32x64, .i32⟩
  | .hbm, ⟨20, _⟩ => ⟨S32x64x1, .i32⟩
  | .hbm, ⟨21, _⟩ => ⟨S1, .i32⟩
  | .hbm, ⟨22, _⟩ => ⟨S_, .i32⟩
  | .hbm, ⟨23, _⟩ => ⟨S32x64x1, .i32⟩
  | .hbm, ⟨24, _⟩ => ⟨S32x64x1, .i1⟩
  | .hbm, ⟨25, _⟩ => ⟨S1x1x1, .i32⟩
  | .hbm, ⟨26, _⟩ => ⟨S32x64x1, .i32⟩
  | .hbm, ⟨27, _⟩ => ⟨S32x64x1, .i1⟩
  | .hbm, ⟨28, _⟩ => ⟨S32x64x1, .i1⟩
  | .hbm, ⟨29, _⟩ => ⟨S_, .i1⟩
  | .hbm, ⟨30, _⟩ => ⟨S32x64, .i1⟩
  | .hbm, ⟨31, _⟩ => ⟨S32x64x256, .f32⟩
  | .hbm, ⟨32, _⟩ => ⟨S32x64x256, .i1⟩
  | .hbm, ⟨33, _⟩ => ⟨S_, .f32⟩
  | .hbm, ⟨34, _⟩ => ⟨S32x64x256, .f32⟩
  | .hbm, ⟨35, _⟩ => ⟨S32x64x256, .f32⟩
  | .hbm, ⟨36, _⟩ => ⟨S_, .i32⟩
  | .hbm, ⟨37, _⟩ => ⟨S64x32, .i32⟩
  | .hbm, ⟨38, _⟩ => ⟨S64x32, .i1⟩
  | .hbm, ⟨39, _⟩ => ⟨S64x32, .i32⟩
  | .hbm, ⟨40, _⟩ => ⟨S256x1024, .f32⟩
  | .hbm, ⟨41, _⟩ => ⟨S1024x256, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S32x64x512, .f32⟩
  | .hbm, ⟨46, _⟩ => ⟨S64x32x2, .i32⟩
  | .hbm, ⟨47, _⟩ => ⟨S32x64x512, .f32⟩
  | .hbm, ⟨48, _⟩ => ⟨S1x8192, .f32⟩
  | .hbm, ⟨49, _⟩ => ⟨S64x32x1x8192, .f32⟩
  | .hbm, ⟨50, _⟩ => ⟨S64x32x8192, .f32⟩
  | .hbm, ⟨51, _⟩ => ⟨S64x32x512, .f32⟩
  | .hbm, ⟨52, _⟩ => ⟨S64x32x2x256, .f32⟩
  | .local _ .vmem, ⟨0, _⟩ => ⟨S32x64x256, .f32⟩
  | .local _ .vmem, ⟨1, _⟩ => ⟨S64x32, .i32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x512, .f32⟩
  | .local _ .vmem, ⟨7, _⟩ => ⟨S1024x256, .f32⟩
  | .local _ .vmem, ⟨8, _⟩ => ⟨S256x1024, .f32⟩
  | .local _ .vmem, ⟨9, _⟩ => ⟨S1x1024, .f32⟩
  | .local _ .vmem, ⟨10, _⟩ => ⟨S32x64x512, .f32⟩
  | .local _ .vmem, ⟨11, _⟩ => ⟨S64x32x2, .i32⟩
  | .local _ .vmem, ⟨12, _⟩ => ⟨S32x64x512, .f32⟩
  | .local _ .vmem, ⟨13, _⟩ => ⟨S1x64x512, .f32⟩
  | .local _ .vmem, ⟨14, _⟩ => ⟨S1x64x512, .f32⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S1x512, .f32⟩
  | .local _ .vmem, ⟨19, _⟩ => ⟨S64x1x1x512, .f32⟩
  | .local _ .vmem, ⟨20, _⟩ => ⟨S64x1x1x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_c : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_v9_0 : Ref sig .tc := ⟨.hbm, 45, rfl⟩
abbrev main_v9_1 : Ref sig .tc := ⟨.hbm, 46, rfl⟩
abbrev main_v9_2 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [BitOps F]

abbrev grid0 : Pipeline.Grid := .none

@[reducible] def k0_t1_loop : Scf.Loop 32 :=
  let c0_i32_18 : BitVec 32 := 0#32
  let c32_i32 : BitVec 32 := 32#32
  let v28 : BitVec 32 := Scalar.addi c0_i32_18 c32_i32
  let c1_i32_19 : BitVec 32 := 1#32
  ⟨c0_i32_18, v28, c1_i32_19⟩
def k0_off1 (k0_t1 : Fin k0_t1_loop.trips) : Fin 3 → Nat :=
  let c0_i32_18 : BitVec 32 := 0#32
  let c1_i32_19 : BitVec 32 := 1#32
  let arg13 : BitVec 32 := Scf.iv c0_i32_18 c1_i32_19 k0_t1
  let v30 : Index := Scalar.indexCast arg13
  let c0_21 : Index := 0#32
  let c0_22 : Index := 0#32
  ![v30.toNat, 0, 0]
def k0_off2 (k0_t1 : Fin k0_t1_loop.trips) : Fin 3 → Nat :=
  let c0_i32_18 : BitVec 32 := 0#32
  let c1_i32_19 : BitVec 32 := 1#32
  let arg13 : BitVec 32 := Scf.iv c0_i32_18 c1_i32_19 k0_t1
  let v234 : Index := Scalar.indexCast arg13
  let c0_76 : Index := 0#32
  let c0_77 : Index := 0#32
  ![v234.toNat, 0, 0]
def k0_off3 (k0_t1 : Fin k0_t1_loop.trips) : Fin 3 → Nat :=
  let c0_80 : Index := 0#32
  let c0_i32_18 : BitVec 32 := 0#32
  let c1_i32_19 : BitVec 32 := 1#32
  let arg13 : BitVec 32 := Scf.iv c0_i32_18 c1_i32_19 k0_t1
  let v242 : Index := Scalar.indexCast arg13
  let c0_81 : Index := 0#32
  ![0, v242.toNat, 0]
abbrev stage0_0 : Fin 1 → Memref sig .tc .vmem S32x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x32x2 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨2, ![32, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage1_0 : Fin 2 → Memref sig .tc .vmem S1x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F]
-- ==== ReferenceIdeal.lean ====
abbrev S8192x256 : Shape := ⟨2, ![8192, 256]⟩
abbrev S512x512 : Shape := ⟨2, ![512, 512]⟩
abbrev S512x8192 : Shape := ⟨2, ![512, 8192]⟩
abbrev S8192 : Shape := ⟨1, ![8192]⟩
abbrev S1024x512 : Shape := ⟨2, ![1024, 512]⟩
abbrev S1024x256 : Shape := ⟨2, ![1024, 256]⟩
abbrev S64x32 : Shape := ⟨2, ![64, 32]⟩
abbrev S64 : Shape := ⟨1, ![64]⟩
abbrev S_ : Shape := ⟨0, ![]⟩
abbrev S64x66x256 : Shape := ⟨3, ![64, 66, 256]⟩
abbrev S64x256 : Shape := ⟨2, ![64, 256]⟩
abbrev S64x1 : Shape := ⟨2, ![64, 1]⟩
abbrev S64x2 : Shape := ⟨2, ![64, 2]⟩
abbrev S64x512 : Shape := ⟨2, ![64, 512]⟩
abbrev S32x64 : Shape := ⟨2, ![32, 64]⟩
abbrev S32x64x8192 : Shape := ⟨3, ![32, 64, 8192]⟩
abbrev S32x64x2 : Shape := ⟨3, ![32, 64, 2]⟩
abbrev S32x64x2x256 : Shape := ⟨4, ![32, 64, 2, 256]⟩
abbrev S1x64 : Shape := ⟨2, ![1, 64]⟩
abbrev S1 : Shape := ⟨1, ![1]⟩
abbrev S1x1 : Shape := ⟨2, ![1, 1]⟩
abbrev S64x1024 : Shape := ⟨2, ![64, 1024]⟩
abbrev S64x2x256 : Shape := ⟨3, ![64, 2, 256]⟩
abbrev S64x8192 : Shape := ⟨2, ![64, 8192]⟩
abbrev S1x8192 : Shape := ⟨2, ![1, 8192]⟩
abbrev S128x1x256 : Shape := ⟨3, ![128, 1, 256]⟩
abbrev S1x1024x256 : Shape := ⟨3, ![1, 1024, 256]⟩
abbrev S128x1024x256 : Shape := ⟨3, ![128, 1024, 256]⟩
abbrev S128x1024 : Shape := ⟨2, ![128, 1024]⟩
abbrev S128 : Shape := ⟨1, ![128]⟩
abbrev S128x1 : Shape := ⟨2, ![128, 1]⟩
abbrev S128x256 : Shape := ⟨2, ![128, 256]⟩
abbrev S64x1x256 : Shape := ⟨3, ![64, 1, 256]⟩
abbrev S1x64x8192 : Shape := ⟨3, ![1, 64, 8192]⟩
abbrev S1x64x2 : Shape := ⟨3, ![1, 64, 2]⟩
abbrev S1x64x2x256 : Shape := ⟨4, ![1, 64, 2, 256]⟩
abbrev S64x32x8192 : Shape := ⟨3, ![64, 32, 8192]⟩
abbrev S64x32x2 : Shape := ⟨3, ![64, 32, 2]⟩
abbrev S64x32x2x256 : Shape := ⟨4, ![64, 32, 2, 256]⟩

abbrev nBuf : Space → Nat
  | .hbm => 337
  | .vmem => 0
  | .smem => 0
  | _ => 0

abbrev hbmTy0_0 (i : Nat) : BufTy := match i % 128 with
  | 0 => ⟨S8192x256, .f32⟩
  | 1 => ⟨S512x512, .f32⟩
  | 2 => ⟨S512x512, .f32⟩
  | 3 => ⟨S512x512, .f32⟩
  | 4 => ⟨S512x512, .f32⟩
  | 5 => ⟨S512x512, .f32⟩
  | 6 => ⟨S512x512, .f32⟩
  | 7 => ⟨S512x8192, .f32⟩
  | 8 => ⟨S8192, .f32⟩
  | 9 => ⟨S1024x512, .f32⟩
  | 10 => ⟨S1024x256, .f32⟩
  | 11 => ⟨S64x32, .i32⟩
  | 12 => ⟨S64, .i32⟩
  | 13 => ⟨S_, .f32⟩
  | 14 => ⟨S64x66x256, .f32⟩
  | 15 => ⟨S_, .i32⟩
  | 16 => ⟨S64, .i32⟩
  | 17 => ⟨S_, .f32⟩
  | 18 => ⟨S64x256, .f32⟩
  | 19 => ⟨S_, .i32⟩
  | 20 => ⟨S64, .i32⟩
  | 21 => ⟨S_, .i32⟩
  | 22 => ⟨S64, .i32⟩
  | 23 => ⟨S64, .i1⟩
  | 24 => ⟨S_, .i32⟩
  | 25 => ⟨S64, .i32⟩
  | 26 => ⟨S64, .i32⟩
  | 27 => ⟨S64, .i32⟩
  | 28 => ⟨S_, .i32⟩
  | 29 => ⟨S64, .i32⟩
  | 30 => ⟨S64, .i1⟩
  | 31 => ⟨S_, .i32⟩
  | 32 => ⟨S64, .i32⟩
  | 33 => ⟨S64, .i32⟩
  | 34 => ⟨S64, .i32⟩
  | 35 => ⟨S64x1, .i32⟩
  | 36 => ⟨S64x1, .i32⟩
  | 37 => ⟨S64x2, .i32⟩
  | 38 => ⟨S64x256, .f32⟩
  | 39 => ⟨S_, .i32⟩
  | 40 => ⟨S64, .i32⟩
  | 41 => ⟨S64, .i1⟩
  | 42 => ⟨S64x1, .i1⟩
  | 43 => ⟨S64x256, .i1⟩
  | 44 => ⟨S64x256, .f32⟩
  | 45 => ⟨S_, .i32⟩
  | 46 => ⟨S64, .i32⟩
  | 47 => ⟨S64, .i1⟩
  | 48 => ⟨S_, .i32⟩
  | 49 => ⟨S64, .i32⟩
  | 50 => ⟨S64, .i32⟩
  | 51 => ⟨S64, .i32⟩
  | 52 => ⟨S_, .i32⟩
  | 53 => ⟨S64, .i32⟩
  | 54 => ⟨S64, .i1⟩
  | 55 => ⟨S_, .i32⟩
  | 56 => ⟨S64, .i32⟩
  | 57 => ⟨S64, .i32⟩
  | 58 => ⟨S64, .i32⟩
  | 59 => ⟨S64x1, .i32⟩
  | 60 => ⟨S64x1, .i32⟩
  | 61 => ⟨S64x2, .i32⟩
  | 62 => ⟨S64x66x256, .f32⟩
  | 63 => ⟨S_, .i32⟩
  | 64 => ⟨S64, .i32⟩
  | 65 => ⟨S64, .i1⟩
  | 66 => ⟨S64, .i32⟩
  | 67 => ⟨S64, .i32⟩
  | 68 => ⟨S_, .f32⟩
  | 69 => ⟨S64x512, .f32⟩
  | 70 => ⟨S32x64, .i32⟩
  | 71 => ⟨S_, .f32⟩
  | 72 => ⟨S32x64x8192, .f32⟩
  | 73 => ⟨S_, .i32⟩
  | 74 => ⟨S32x64x2, .i32⟩
  | 75 => ⟨S_, .f32⟩
  | 76 => ⟨S32x64x2x256, .f32⟩
  | 77 => ⟨S_, .i32⟩
  | 78 => ⟨S32x64, .i32⟩
  | 79 => ⟨S64, .i32⟩
  | 80 => ⟨S8192x256, .f32⟩
  | 81 => ⟨S512x512, .f32⟩
  | 82 => ⟨S512x512, .f32⟩
  | 83 => ⟨S512x512, .f32⟩
  | 84 => ⟨S512x512, .f32⟩
  | 85 => ⟨S1024x512, .f32⟩
  | 86 => ⟨S512x8192, .f32⟩
  | 87 => ⟨S8192, .f32⟩
  | 88 => ⟨S1024x256, .f32⟩
  | 89 => ⟨S_, .i32⟩
  | 90 => ⟨S64x66x256, .f32⟩
  | 91 => ⟨S64, .i32⟩
  | 92 => ⟨S64x512, .f32⟩
  | 93 => ⟨S64x512, .f32⟩
  | 94 => ⟨S32x64x8192, .f32⟩
  | 95 => ⟨S32x64x2, .i32⟩
  | 96 => ⟨S32x64x2x256, .f32⟩
  | 97 => ⟨S_, .i32⟩
  | 98 => ⟨S_, .i1⟩
  | 99 => ⟨S_, .i32⟩
  | 100 => ⟨S1x64, .i32⟩
  | 101 => ⟨S64, .i32⟩
  | 102 => ⟨S_, .i32⟩
  | 103 => ⟨S64, .i32⟩
  | 104 => ⟨S64, .i1⟩
  | 105 => ⟨S64, .i32⟩
  | 106 => ⟨S_, .i32⟩
  | 107 => ⟨S64, .i32⟩
  | 108 => ⟨S64, .i32⟩
  | 109 => ⟨S_, .i32⟩
  | 110 => ⟨S64, .i32⟩
  | 111 => ⟨S64, .i32⟩
  | 112 => ⟨S_, .i32⟩
  | 113 => ⟨S64, .i32⟩
  | 114 => ⟨S64, .i1⟩
  | 115 => ⟨S_, .i32⟩
  | 116 => ⟨S64, .i32⟩
  | 117 => ⟨S64, .i32⟩
  | 118 => ⟨S64, .i32⟩
  | 119 => ⟨S_, .i32⟩
  | 120 => ⟨S64, .i32⟩
  | 121 => ⟨S64, .i1⟩
  | 122 => ⟨S_, .i32⟩
  | 123 => ⟨S64, .i32⟩
  | 124 => ⟨S64, .i32⟩
  | 125 => ⟨S64, .i32⟩
  | 126 => ⟨S64x1, .i32⟩
  | 127 => ⟨S64x1, .i32⟩
  | _ => ⟨S8192x256, .f32⟩

abbrev hbmTy0_1 (i : Nat) : BufTy := match i % 128 with
  | 0 => ⟨S64x2, .i32⟩
  | 1 => ⟨S64x256, .f32⟩
  | 2 => ⟨S_, .i32⟩
  | 3 => ⟨S64, .i32⟩
  | 4 => ⟨S64, .i1⟩
  | 5 => ⟨S64, .i32⟩
  | 6 => ⟨S64, .i32⟩
  | 7 => ⟨S_, .i32⟩
  | 8 => ⟨S64, .i32⟩
  | 9 => ⟨S64, .i1⟩
  | 10 => ⟨S_, .i32⟩
  | 11 => ⟨S64, .i32⟩
  | 12 => ⟨S64, .i32⟩
  | 13 => ⟨S64, .i32⟩
  | 14 => ⟨S64x1, .i32⟩
  | 15 => ⟨S1, .i32⟩
  | 16 => ⟨S_, .i32⟩
  | 17 => ⟨S64x1, .i32⟩
  | 18 => ⟨S64x1, .i1⟩
  | 19 => ⟨S1x1, .i32⟩
  | 20 => ⟨S64x1, .i32⟩
  | 21 => ⟨S64x1, .i1⟩
  | 22 => ⟨S64x1, .i1⟩
  | 23 => ⟨S_, .i1⟩
  | 24 => ⟨S64, .i1⟩
  | 25 => ⟨S64x256, .f32⟩
  | 26 => ⟨S64x256, .i1⟩
  | 27 => ⟨S_, .f32⟩
  | 28 => ⟨S64x256, .f32⟩
  | 29 => ⟨S64x256, .f32⟩
  | 30 => ⟨S64x512, .f32⟩
  | 31 => ⟨S64x512, .f32⟩
  | 32 => ⟨S64x512, .f32⟩
  | 33 => ⟨S64x512, .f32⟩
  | 34 => ⟨S64x512, .f32⟩
  | 35 => ⟨S64x512, .f32⟩
  | 36 => ⟨S64x512, .f32⟩
  | 37 => ⟨S64x512, .f32⟩
  | 38 => ⟨S64x512, .f32⟩
  | 39 => ⟨S64x1024, .f32⟩
  | 40 => ⟨S64x512, .f32⟩
  | 41 => ⟨S64x512, .f32⟩
  | 42 => ⟨S64x2x256, .f32⟩
  | 43 => ⟨S64x8192, .f32⟩
  | 44 => ⟨S1x8192, .f32⟩
  | 45 => ⟨S64x8192, .f32⟩
  | 46 => ⟨S64x8192, .f32⟩
  | 47 => ⟨S128x1x256, .f32⟩
  | 48 => ⟨S1x1024x256, .f32⟩
  | 49 => ⟨S128x1024x256, .f32⟩
  | 50 => ⟨S128x1024x256, .f32⟩
  | 51 => ⟨S128x1024x256, .f32⟩
  | 52 => ⟨S128x1024x256, .f32⟩
  | 53 => ⟨S_, .f32⟩
  | 54 => ⟨S128x1024, .f32⟩
  | 55 => ⟨S128x1024, .f32⟩
  | 56 => ⟨S128x1024, .i32⟩
  | 57 => ⟨S_, .f32⟩
  | 58 => ⟨S_, .i32⟩
  | 59 => ⟨S128, .f32⟩
  | 60 => ⟨S128, .i32⟩
  | 61 => ⟨S_, .i32⟩
  | 62 => ⟨S128, .i32⟩
  | 63 => ⟨S128, .i1⟩
  | 64 => ⟨S_, .i32⟩
  | 65 => ⟨S128, .i32⟩
  | 66 => ⟨S128, .i32⟩
  | 67 => ⟨S128, .i32⟩
  | 68 => ⟨S128x1, .i32⟩
  | 69 => ⟨S1, .i32⟩
  | 70 => ⟨S_, .i32⟩
  | 71 => ⟨S128x1, .i32⟩
  | 72 => ⟨S128x1, .i1⟩
  | 73 => ⟨S1x1, .i32⟩
  | 74 => ⟨S128x1, .i32⟩
  | 75 => ⟨S128x1, .i1⟩
  | 76 => ⟨S128x1, .i1⟩
  | 77 => ⟨S_, .i1⟩
  | 78 => ⟨S128, .i1⟩
  | 79 => ⟨S128x256, .f32⟩
  | 80 => ⟨S128x256, .i1⟩
  | 81 => ⟨S_, .f32⟩
  | 82 => ⟨S128x256, .f32⟩
  | 83 => ⟨S128x256, .f32⟩
  | 84 => ⟨S64x2x256, .f32⟩
  | 85 => ⟨S64x2, .i32⟩
  | 86 => ⟨S64x1, .i32⟩
  | 87 => ⟨S64x2, .i32⟩
  | 88 => ⟨S64x2, .i32⟩
  | 89 => ⟨S64x1x256, .f32⟩
  | 90 => ⟨S64x256, .f32⟩
  | 91 => ⟨S64x1, .i32⟩
  | 92 => ⟨S64, .i32⟩
  | 93 => ⟨S_, .i32⟩
  | 94 => ⟨S64, .i32⟩
  | 95 => ⟨S64, .i1⟩
  | 96 => ⟨S_, .i32⟩
  | 97 => ⟨S64, .i32⟩
  | 98 => ⟨S64, .i32⟩
  | 99 => ⟨S64, .i32⟩
  | 100 => ⟨S_, .i32⟩
  | 101 => ⟨S64, .i32⟩
  | 102 => ⟨S64, .i1⟩
  | 103 => ⟨S_, .i32⟩
  | 104 => ⟨S64, .i32⟩
  | 105 => ⟨S64, .i32⟩
  | 106 => ⟨S64, .i32⟩
  | 107 => ⟨S64x1, .i32⟩
  | 108 => ⟨S64x1, .i32⟩
  | 109 => ⟨S64x2, .i32⟩
  | 110 => ⟨S64x256, .f32⟩
  | 111 => ⟨S_, .i32⟩
  | 112 => ⟨S64, .i32⟩
  | 113 => ⟨S64, .i1⟩
  | 114 => ⟨S64x1, .i1⟩
  | 115 => ⟨S64x256, .i1⟩
  | 116 => ⟨S64x256, .f32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S_, .i32⟩
  | 125 => ⟨S64, .i32⟩
  | 126 => ⟨S64, .i1⟩
  | 127 => ⟨S_, .i32⟩
  | _ => ⟨S8192x256, .f32⟩

abbrev hbmTy0_2 (i : Nat) : BufTy := match i % 128 with
  | 0 => ⟨S64, .i32⟩
  | 1 => ⟨S64, .i32⟩
  | 2 => ⟨S64, .i32⟩
  | 3 => ⟨S64x1, .i32⟩
  | 4 => ⟨S64x1, .i32⟩
  | 5 => ⟨S64x2, .i32⟩
  | 6 => ⟨S64x66x256, .f32⟩
  | 7 => ⟨S_, .i32⟩
  | 8 => ⟨S64, .i32⟩
  | 9 => ⟨S64, .i1⟩
  | 10 => ⟨S64, .i32⟩
  | 11 => ⟨S64, .i32⟩
  | 12 => ⟨S64x1x256, .f32⟩
  | 13 => ⟨S64x256, .f32⟩
  | 14 => ⟨S64x1, .i32⟩
  | 15 => ⟨S64, .i32⟩
  | 16 => ⟨S_, .i32⟩
  | 17 => ⟨S64, .i32⟩
  | 18 => ⟨S64, .i1⟩
  | 19 => ⟨S_, .i32⟩
  | 20 => ⟨S64, .i32⟩
  | 21 => ⟨S64, .i32⟩
  | 22 => ⟨S64, .i32⟩
  | 23 => ⟨S_, .i32⟩
  | 24 => ⟨S64, .i32⟩
  | 25 => ⟨S64, .i1⟩
  | 26 => ⟨S_, .i32⟩
  | 27 => ⟨S64, .i32⟩
  | 28 => ⟨S64, .i32⟩
  | 29 => ⟨S64, .i32⟩
  | 30 => ⟨S64x1, .i32⟩
  | 31 => ⟨S64x1, .i32⟩
  | 32 => ⟨S64x2, .i32⟩
  | 33 => ⟨S64x256, .f32⟩
  | 34 => ⟨S_, .i32⟩
  | 35 => ⟨S64, .i32⟩
  | 36 => ⟨S64, .i1⟩
  | 37 => ⟨S64x1, .i1⟩
  | 38 => ⟨S64x256, .i1⟩
  | 39 => ⟨S64x256, .f32⟩
  | 40 => ⟨S_, .i32⟩
  | 41 => ⟨S64, .i32⟩
  | 42 => ⟨S64, .i1⟩
  | 43 => ⟨S_, .i32⟩
  | 44 => ⟨S64, .i32⟩
  | 45 => ⟨S64, .i32⟩
  | 46 => ⟨S64, .i32⟩
  | 47 => ⟨S_, .i32⟩
  | 48 => ⟨S64, .i32⟩
  | 49 => ⟨S64, .i1⟩
  | 50 => ⟨S_, .i32⟩
  | 51 => ⟨S64, .i32⟩
  | 52 => ⟨S64, .i32⟩
  | 53 => ⟨S64, .i32⟩
  | 54 => ⟨S64x1, .i32⟩
  | 55 => ⟨S64x1, .i32⟩
  | 56 => ⟨S64x2, .i32⟩
  | 57 => ⟨S64x66x256, .f32⟩
  | 58 => ⟨S_, .i32⟩
  | 59 => ⟨S64, .i32⟩
  | 60 => ⟨S64, .i1⟩
  | 61 => ⟨S64, .i32⟩
  | 62 => ⟨S64, .i32⟩
  | 63 => ⟨S1x64x8192, .f32⟩
  | 64 => ⟨S_, .i32⟩
  | 65 => ⟨S_, .i32⟩
  | 66 => ⟨S32x64x8192, .f32⟩
  | 67 => ⟨S1x64x2, .i32⟩
  | 68 => ⟨S_, .i32⟩
  | 69 => ⟨S_, .i32⟩
  | 70 => ⟨S32x64x2, .i32⟩
  | 71 => ⟨S1x64x2x256, .f32⟩
  | 72 => ⟨S_, .i32⟩
  | 73 => ⟨S_, .i32⟩
  | 74 => ⟨S_, .i32⟩
  | 75 => ⟨S32x64x2x256, .f32⟩
  | 76 => ⟨S_, .i32⟩
  | 77 => ⟨S_, .i32⟩
  | 78 => ⟨S64x32x8192, .f32⟩
  | 79 => ⟨S64x32x2, .i32⟩
  | 80 => ⟨S64x32x2x256, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_c_1 : Ref sig .tc := ⟨.hbm, 19, rfl⟩
abbrev main_v4 : Ref sig .tc := ⟨.hbm, 20, rfl⟩
abbrev main_c_2 : Ref sig .tc := ⟨.hbm, 21, rfl⟩
abbrev main_v5 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_c_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call0_v0 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_v41 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_c_14 : Ref sig .tc := ⟨.hbm, 73, rfl⟩
abbrev main_v44 : Ref sig .tc := ⟨.hbm, 74, rfl⟩
abbrev main_cst_15 : Ref sig .tc := ⟨.hbm, 75, rfl⟩
abbrev main_v45 : Ref sig .tc := ⟨.hbm, 76, rfl⟩
abbrev main_c_16 : Ref sig .tc := ⟨.hbm, 77, rfl⟩
abbrev main_v46_0 : Ref sig .tc := ⟨.hbm, 78, rfl⟩
abbrev main_v46_1 : Ref sig .tc := ⟨.hbm, 79, rfl⟩
abbrev main_v46_2 : Ref sig .tc := ⟨.hbm, 80, rfl⟩
abbrev main_v46_3 : Ref sig .tc := ⟨.hbm, 81, rfl⟩
abbrev main_v46_4 : Ref sig .tc := ⟨.hbm, 82, rfl⟩
abbrev main_v46_5 : Ref sig .tc := ⟨.hbm, 83, rfl⟩
abbrev main_v46_6 : Ref sig .tc := ⟨.hbm, 84, rfl⟩
abbrev main_v46_7 : Ref sig .tc := ⟨.hbm, 85, rfl⟩
abbrev main_v46_8 : Ref sig .tc := ⟨.hbm, 86, rfl⟩
abbrev main_v46_9 : Ref sig .tc := ⟨.hbm, 87, rfl⟩
abbrev main_v46_10 : Ref sig .tc := ⟨.hbm, 88, rfl⟩
abbrev main_v46_11 : Ref sig .tc := ⟨.hbm, 89, rfl⟩
abbrev main_v46_12 : Ref sig .tc := ⟨.hbm, 90, rfl⟩
abbrev main_v46_13 : Ref sig .tc := ⟨.hbm, 91, rfl⟩
abbrev main_v46_14 : Ref sig .tc := ⟨.hbm, 92, rfl⟩
abbrev main_v46_15 : Ref sig .tc := ⟨.hbm, 93, rfl⟩
abbrev main_v46_16 : Ref sig .tc := ⟨.hbm, 94, rfl⟩
abbrev main_v46_17 : Ref sig .tc := ⟨.hbm, 95, rfl⟩
abbrev main_v46_18 : Ref sig .tc := ⟨.hbm, 96, rfl⟩
abbrev main_while0c_c_35 : Ref sig .tc := ⟨.hbm, 97, rfl⟩
abbrev main_while0c_v50 : Ref sig .tc := ⟨.hbm, 98, rfl⟩
abbrev main_while0b_call1_c : Ref sig .tc := ⟨.hbm, 99, rfl⟩
abbrev main_while0b_call1_v0 : Ref sig .tc := ⟨.hbm, 100, rfl⟩
abbrev main_while0b_v50 : Ref sig .tc := ⟨.hbm, 101, rfl⟩
abbrev main_while0b_c_35 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_c_36 : Ref sig .tc := ⟨.hbm, 106, rfl⟩
abbrev main_while0b_v54 : Ref sig .tc := ⟨.hbm, 107, rfl⟩
abbrev main_while0b_v55 : Ref sig .tc := ⟨.hbm, 108, rfl⟩
abbrev main_while0b_c_37 : Ref sig .tc := ⟨.hbm, 109, rfl⟩
abbrev main_while0b_v56 : Ref sig .tc := ⟨.hbm, 110, rfl⟩
abbrev main_while0b_v57 : Ref sig .tc := ⟨.hbm, 111, rfl⟩
abbrev main_while0b_c_38 : Ref sig .tc := ⟨.hbm, 112, rfl⟩
abbrev main_while0b_v58 : Ref sig .tc := ⟨.hbm, 113, rfl⟩
abbrev main_while0b_v59 : Ref sig .tc := ⟨.hbm, 114, rfl⟩
abbrev main_while0b_c_39 : Ref sig .tc := ⟨.hbm, 115, rfl⟩
abbrev main_while0b_v60 : Ref sig .tc := ⟨.hbm, 116, rfl⟩
abbrev main_while0b_v61 : Ref sig .tc := ⟨.hbm, 117, rfl⟩
abbrev main_while0b_v62 : Ref sig .tc := ⟨.hbm, 118, rfl⟩
abbrev main_while0b_c_40 : Ref sig .tc := ⟨.hbm, 119, rfl⟩
abbrev main_while0b_v63 : Ref sig .tc := ⟨.hbm, 120, rfl⟩
abbrev main_while0b_v64 : Ref sig .tc := ⟨.hbm, 121, rfl⟩
abbrev main_while0b_c_41 : Ref sig .tc := ⟨.hbm, 122, rfl⟩
abbrev main_while0b_v65 : Ref sig .tc := ⟨.hbm, 123, rfl⟩
abbrev main_while0b_v66 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_c_42 : Ref sig .tc := ⟨.hbm, 130, rfl⟩
abbrev main_while0b_v72 : Ref sig .tc := ⟨.hbm, 131, rfl⟩
abbrev main_while0b_v73 : Ref sig .tc := ⟨.hbm, 132, rfl⟩
abbrev main_while0b_v74 : Ref sig .tc := ⟨.hbm, 133, rfl⟩
abbrev main_while0b_v75 : Ref sig .tc := ⟨.hbm, 134, rfl⟩
abbrev main_while0b_call2_c : Ref sig .tc := ⟨.hbm, 135, rfl⟩
abbrev main_while0b_call2_v0 : Ref sig .tc := ⟨.hbm, 136, rfl⟩
abbrev main_while0b_call2_v1 : Ref sig .tc := ⟨.hbm, 137, rfl⟩
abbrev main_while0b_call2_c_0 : Ref sig .tc := ⟨.hbm, 138, rfl⟩
abbrev main_while0b_call2_v2 : Ref sig .tc := ⟨.hbm, 139, rfl⟩
abbrev main_while0b_call2_v3 : Ref sig .tc := ⟨.hbm, 140, rfl⟩
abbrev main_while0b_call2_v4 : Ref sig .tc := ⟨.hbm, 141, rfl⟩
abbrev main_while0b_call2_v5 : Ref sig .tc := ⟨.hbm, 142, rfl⟩
abbrev main_while0b_call2_c_1 : Ref sig .tc := ⟨.hbm, 143, rfl⟩
abbrev main_while0b_call2_c_2 : Ref sig .tc := ⟨.hbm, 144, rfl⟩
abbrev main_while0b_call2_v6 : Ref sig .tc := ⟨.hbm, 145, rfl⟩
abbrev main_while0b_call2_v7 : Ref sig .tc := ⟨.hbm, 146, rfl⟩
abbrev main_while0b_call2_v8 : Ref sig .tc := ⟨.hbm, 147, rfl⟩
abbrev main_while0b_call2_v9 : Ref sig .tc := ⟨.hbm, 148, rfl⟩
abbrev main_while0b_call2_v10 : Ref sig .tc := ⟨.hbm, 149, rfl⟩
abbrev main_while0b_call2_v11 : Ref sig .tc := ⟨.hbm, 150, rfl⟩
abbrev main_while0b_call2_c_3 : Ref sig .tc := ⟨.hbm, 151, rfl⟩
abbrev main_while0b_call2_v12 : Ref sig .tc := ⟨.hbm, 152, rfl⟩
abbrev main_while0b_call2_v13 : Ref sig .tc := ⟨.hbm, 153, rfl⟩
abbrev main_while0b_call2_v14 : Ref sig .tc := ⟨.hbm, 154, rfl⟩
abbrev main_while0b_call2_cst : Ref sig .tc := ⟨.hbm, 155, rfl⟩
abbrev main_while0b_call2_v15 : Ref sig .tc := ⟨.hbm, 156, rfl⟩
abbrev main_while0b_v76 : Ref sig .tc := ⟨.hbm, 157, rfl⟩
abbrev main_while0b_v77 : Ref sig .tc := ⟨.hbm, 158, rfl⟩
abbrev main_while0b_v78 : Ref sig .tc := ⟨.hbm, 159, rfl⟩
abbrev main_while0b_v79 : Ref sig .tc := ⟨.hbm, 160, rfl⟩
abbrev main_while0b_v80 : Ref sig .tc := ⟨.hbm, 161, rfl⟩
abbrev main_while0b_v81 : Ref sig .tc := ⟨.hbm, 162, rfl⟩
abbrev main_while0b_v82 : Ref sig .tc := ⟨.hbm, 163, rfl⟩
abbrev main_while0b_v83 : Ref sig .tc := ⟨.hbm, 164, rfl⟩
abbrev main_while0b_v84 : Ref sig .tc := ⟨.hbm, 165, rfl⟩
abbrev main_while0b_v85 : Ref sig .tc := ⟨.hbm, 166, rfl⟩
abbrev main_while0b_v86 : Ref sig .tc := ⟨.hbm, 167, rfl⟩
abbrev main_while0b_v87 : Ref sig .tc := ⟨.hbm, 168, rfl⟩
abbrev main_while0b_v88 : Ref sig .tc := ⟨.hbm, 169, rfl⟩
abbrev main_while0b_v89 : Ref sig .tc := ⟨.hbm, 170, rfl⟩
abbrev main_while0b_v90 : Ref sig .tc := ⟨.hbm, 171, rfl⟩
abbrev main_while0b_v91 : Ref sig .tc := ⟨.hbm, 172, rfl⟩
abbrev main_while0b_v92 : Ref sig .tc := ⟨.hbm, 173, rfl⟩
abbrev main_while0b_v93 : Ref sig .tc := ⟨.hbm, 174, rfl⟩
abbrev main_while0b_v94 : Ref sig .tc := ⟨.hbm, 175, rfl⟩
abbrev main_while0b_v95 : Ref sig .tc := ⟨.hbm, 176, rfl⟩
abbrev main_while0b_v96 : Ref sig .tc := ⟨.hbm, 177, rfl⟩
abbrev main_while0b_v97 : Ref sig .tc := ⟨.hbm, 178, rfl⟩
abbrev main_while0b_v98 : Ref sig .tc := ⟨.hbm, 179, rfl⟩
abbrev main_while0b_call3_v0 : Ref sig .tc := ⟨.hbm, 180, rfl⟩
abbrev main_while0b_call3_cst : Ref sig .tc := ⟨.hbm, 181, rfl⟩
abbrev main_while0b_call3_v1 : Ref sig .tc := ⟨.hbm, 182, rfl⟩
abbrev main_while0b_v99 : Ref sig .tc := ⟨.hbm, 183, rfl⟩
abbrev main_while0b_call4_v0 : Ref sig .tc := ⟨.hbm, 184, rfl⟩
abbrev main_while0b_call4_cst : Ref sig .tc := ⟨.hbm, 185, rfl⟩
abbrev main_while0b_call4_c : Ref sig .tc := ⟨.hbm, 186, rfl⟩
abbrev main_while0b_call4_v1_0 : Ref sig .tc := ⟨.hbm, 187, rfl⟩
abbrev main_while0b_v100 : Ref sig .tc := ⟨.hbm, 188, rfl⟩
abbrev main_while0b_call5_c : Ref sig .tc := ⟨.hbm, 189, rfl⟩
abbrev main_while0b_call5_v0 : Ref sig .tc := ⟨.hbm, 190, rfl⟩
abbrev main_while0b_call5_v1 : Ref sig .tc := ⟨.hbm, 191, rfl⟩
abbrev main_while0b_call5_c_0 : Ref sig .tc := ⟨.hbm, 192, rfl⟩
abbrev main_while0b_call5_v2 : Ref sig .tc := ⟨.hbm, 193, rfl⟩
abbrev main_while0b_call5_v3 : Ref sig .tc := ⟨.hbm, 194, rfl⟩
abbrev main_while0b_call5_v4 : Ref sig .tc := ⟨.hbm, 195, rfl⟩
abbrev main_while0b_call5_v5 : Ref sig .tc := ⟨.hbm, 196, rfl⟩
abbrev main_while0b_call5_c_1 : Ref sig .tc := ⟨.hbm, 197, rfl⟩
abbrev main_while0b_call5_c_2 : Ref sig .tc := ⟨.hbm, 198, rfl⟩
abbrev main_while0b_call5_v6 : Ref sig .tc := ⟨.hbm, 199, rfl⟩
abbrev main_while0b_call5_v7 : Ref sig .tc := ⟨.hbm, 200, rfl⟩
abbrev main_while0b_call5_v8 : Ref sig .tc := ⟨.hbm, 201, rfl⟩
abbrev main_while0b_call5_v9 : Ref sig .tc := ⟨.hbm, 202, rfl⟩
abbrev main_while0b_call5_v10 : Ref sig .tc := ⟨.hbm, 203, rfl⟩
abbrev main_while0b_call5_v11 : Ref sig .tc := ⟨.hbm, 204, rfl⟩
abbrev main_while0b_call5_c_3 : Ref sig .tc := ⟨.hbm, 205, rfl⟩
abbrev main_while0b_call5_v12 : Ref sig .tc := ⟨.hbm, 206, rfl⟩
abbrev main_while0b_call5_v13 : Ref sig .tc := ⟨.hbm, 207, rfl⟩
abbrev main_while0b_call5_v14 : Ref sig .tc := ⟨.hbm, 208, rfl⟩
abbrev main_while0b_call5_cst : Ref sig .tc := ⟨.hbm, 209, rfl⟩
abbrev main_while0b_call5_v15 : Ref sig .tc := ⟨.hbm, 210, rfl⟩
abbrev main_while0b_v101 : Ref sig .tc := ⟨.hbm, 211, rfl⟩
abbrev main_while0b_v102 : Ref sig .tc := ⟨.hbm, 212, rfl⟩
abbrev main_while0b_v103 : Ref sig .tc := ⟨.hbm, 213, rfl⟩
abbrev main_while0b_v104 : Ref sig .tc := ⟨.hbm, 214, rfl⟩
abbrev main_while0b_v105 : Ref sig .tc := ⟨.hbm, 215, rfl⟩
abbrev main_while0b_v106 : Ref sig .tc := ⟨.hbm, 216, rfl⟩
abbrev main_while0b_v107 : Ref sig .tc := ⟨.hbm, 217, rfl⟩
abbrev main_while0b_v108 : Ref sig .tc := ⟨.hbm, 218, rfl⟩
abbrev main_while0b_v109 : Ref sig .tc := ⟨.hbm, 219, rfl⟩
abbrev main_while0b_v110 : Ref sig .tc := ⟨.hbm, 220, rfl⟩
abbrev main_while0b_c_43 : Ref sig .tc := ⟨.hbm, 221, rfl⟩
abbrev main_while0b_v111 : Ref sig .tc := ⟨.hbm, 222, rfl⟩
abbrev main_while0b_v112 : Ref sig .tc := ⟨.hbm, 223, rfl⟩
abbrev main_while0b_c_44 : Ref sig .tc := ⟨.hbm, 224, rfl⟩
abbrev main_while0b_v113 : Ref sig .tc := ⟨.hbm, 225, rfl⟩
abbrev main_while0b_v114 : Ref sig .tc := ⟨.hbm, 226, rfl⟩
abbrev main_while0b_v115 : Ref sig .tc := ⟨.hbm, 227, rfl⟩
abbrev main_while0b_c_45 : Ref sig .tc := ⟨.hbm, 228, rfl⟩
abbrev main_while0b_v116 : Ref sig .tc := ⟨.hbm, 229, rfl⟩
abbrev main_while0b_v117 : Ref sig .tc := ⟨.hbm, 230, rfl⟩
abbrev main_while0b_c_46 : Ref sig .tc := ⟨.hbm, 231, rfl⟩
abbrev main_while0b_v118 : Ref sig .tc := ⟨.hbm, 232, rfl⟩
abbrev main_while0b_v119 : Ref sig .tc := ⟨.hbm, 233, rfl⟩
abbrev main_while0b_v120 : Ref sig .tc := ⟨.hbm, 234, rfl⟩
abbrev main_while0b_v121 : Ref sig .tc := ⟨.hbm, 235, rfl⟩
abbrev main_while0b_v122 : Ref sig .tc := ⟨.hbm, 236, rfl⟩
abbrev main_while0b_v123 : Ref sig .tc := ⟨.hbm, 237, rfl⟩
abbrev main_while0b_v124 : Ref sig .tc := ⟨.hbm, 238, rfl⟩
abbrev main_while0b_c_47 : Ref sig .tc := ⟨.hbm, 239, rfl⟩
abbrev main_while0b_v125 : Ref sig .tc := ⟨.hbm, 240, rfl⟩
abbrev main_while0b_v126 : Ref sig .tc := ⟨.hbm, 241, rfl⟩
abbrev main_while0b_v127 : Ref sig .tc := ⟨.hbm, 242, rfl⟩
abbrev main_while0b_call6_v0 : Ref sig .tc := ⟨.hbm, 243, rfl⟩
abbrev main_while0b_v128 : Ref sig .tc := ⟨.hbm, 244, rfl⟩
abbrev main_while0b_c_48 : Ref sig .tc := ⟨.hbm, 245, rfl⟩
abbrev main_while0b_v129 : Ref sig .tc := ⟨.hbm, 246, rfl⟩
abbrev main_while0b_v130 : Ref sig .tc := ⟨.hbm, 247, rfl⟩
abbrev main_while0b_c_49 : Ref sig .tc := ⟨.hbm, 248, rfl⟩
abbrev main_while0b_v131 : Ref sig .tc := ⟨.hbm, 249, rfl⟩
abbrev main_while0b_v132 : Ref sig .tc := ⟨.hbm, 250, rfl⟩
abbrev main_while0b_v133 : Ref sig .tc := ⟨.hbm, 251, rfl⟩
abbrev main_while0b_c_50 : Ref sig .tc := ⟨.hbm, 252, rfl⟩
abbrev main_while0b_v134 : Ref sig .tc := ⟨.hbm, 253, rfl⟩
abbrev main_while0b_v135 : Ref sig .tc := ⟨.hbm, 254, rfl⟩
abbrev main_while0b_c_51 : Ref sig .tc := ⟨.hbm, 255, rfl⟩
abbrev main_while0b_v136 : Ref sig .tc := ⟨.hbm, 256, rfl⟩
abbrev main_while0b_v137 : Ref sig .tc := ⟨.hbm, 257, rfl⟩
abbrev main_while0b_v138 : Ref sig .tc := ⟨.hbm, 258, rfl⟩
abbrev main_while0b_v139 : Ref sig .tc := ⟨.hbm, 259, rfl⟩
abbrev main_while0b_v140 : Ref sig .tc := ⟨.hbm, 260, rfl⟩
abbrev main_while0b_v141 : Ref sig .tc := ⟨.hbm, 261, rfl⟩
abbrev main_while0b_v142 : Ref sig .tc := ⟨.hbm, 262, rfl⟩
abbrev main_while0b_c_52 : Ref sig .tc := ⟨.hbm, 263, rfl⟩
abbrev main_while0b_v143 : Ref sig .tc := ⟨.hbm, 264, rfl⟩
abbrev main_while0b_v144 : Ref sig .tc := ⟨.hbm, 265, rfl⟩
abbrev main_while0b_v145 : Ref sig .tc := ⟨.hbm, 266, rfl⟩
abbrev main_while0b_v146 : Ref sig .tc := ⟨.hbm, 267, rfl⟩
abbrev main_while0b_v147 : Ref sig .tc := ⟨.hbm, 268, rfl⟩
abbrev main_while0b_v148 : Ref sig .tc := ⟨.hbm, 269, rfl⟩
abbrev main_while0b_v149 : Ref sig .tc := ⟨.hbm, 270, rfl⟩
abbrev main_while0b_v150 : Ref sig .tc := ⟨.hbm, 271, rfl⟩
abbrev main_while0b_c_53 : Ref sig .tc := ⟨.hbm, 272, rfl⟩
abbrev main_while0b_v151 : Ref sig .tc := ⟨.hbm, 273, rfl⟩
abbrev main_while0b_v152 : Ref sig .tc := ⟨.hbm, 274, rfl⟩
abbrev main_while0b_c_54 : Ref sig .tc := ⟨.hbm, 275, rfl⟩
abbrev main_while0b_v153 : Ref sig .tc := ⟨.hbm, 276, rfl⟩
abbrev main_while0b_v154 : Ref sig .tc := ⟨.hbm, 277, rfl⟩
abbrev main_while0b_v155 : Ref sig .tc := ⟨.hbm, 278, rfl⟩
abbrev main_while0b_c_55 : Ref sig .tc := ⟨.hbm, 279, rfl⟩
abbrev main_while0b_v156 : Ref sig .tc := ⟨.hbm, 280, rfl⟩
abbrev main_while0b_v157 : Ref sig .tc := ⟨.hbm, 281, rfl⟩
abbrev main_while0b_c_56 : Ref sig .tc := ⟨.hbm, 282, rfl⟩
abbrev main_while0b_v158 : Ref sig .tc := ⟨.hbm, 283, rfl⟩
abbrev main_while0b_v159 : Ref sig .tc := ⟨.hbm, 284, rfl⟩
abbrev main_while0b_v160 : Ref sig .tc := ⟨.hbm, 285, rfl⟩
abbrev main_while0b_v161 : Ref sig .tc := ⟨.hbm, 286, rfl⟩
abbrev main_while0b_v162 : Ref sig .tc := ⟨.hbm, 287, rfl⟩
abbrev main_while0b_v163 : Ref sig .tc := ⟨.hbm, 288, rfl⟩
abbrev main_while0b_v164 : Ref sig .tc := ⟨.hbm, 289, rfl⟩
abbrev main_while0b_c_57 : Ref sig .tc := ⟨.hbm, 290, rfl⟩
abbrev main_while0b_v165 : Ref sig .tc := ⟨.hbm, 291, rfl⟩
abbrev main_while0b_v166 : Ref sig .tc := ⟨.hbm, 292, rfl⟩
abbrev main_while0b_v167 : Ref sig .tc := ⟨.hbm, 293, rfl⟩
abbrev main_while0b_call7_v0 : Ref sig .tc := ⟨.hbm, 294, rfl⟩
abbrev main_while0b_v168 : Ref sig .tc := ⟨.hbm, 295, rfl⟩
abbrev main_while0b_c_58 : Ref sig .tc := ⟨.hbm, 296, rfl⟩
abbrev main_while0b_v169 : Ref sig .tc := ⟨.hbm, 297, rfl⟩
abbrev main_while0b_v170 : Ref sig .tc := ⟨.hbm, 298, rfl⟩
abbrev main_while0b_c_59 : Ref sig .tc := ⟨.hbm, 299, rfl⟩
abbrev main_while0b_v171 : Ref sig .tc := ⟨.hbm, 300, rfl⟩
abbrev main_while0b_v172 : Ref sig .tc := ⟨.hbm, 301, rfl⟩
abbrev main_while0b_v173 : Ref sig .tc := ⟨.hbm, 302, rfl⟩
abbrev main_while0b_c_60 : Ref sig .tc := ⟨.hbm, 303, rfl⟩
abbrev main_while0b_v174 : Ref sig .tc := ⟨.hbm, 304, rfl⟩
abbrev main_while0b_v175 : Ref sig .tc := ⟨.hbm, 305, rfl⟩
abbrev main_while0b_c_61 : Ref sig .tc := ⟨.hbm, 306, rfl⟩
abbrev main_while0b_v176 : Ref sig .tc := ⟨.hbm, 307, rfl⟩
abbrev main_while0b_v177 : Ref sig .tc := ⟨.hbm, 308, rfl⟩
abbrev main_while0b_v178 : Ref sig .tc := ⟨.hbm, 309, rfl⟩
abbrev main_while0b_v179 : Ref sig .tc := ⟨.hbm, 310, rfl⟩
abbrev main_while0b_v180 : Ref sig .tc := ⟨.hbm, 311, rfl⟩
abbrev main_while0b_v181 : Ref sig .tc := ⟨.hbm, 312, rfl⟩
abbrev main_while0b_v182 : Ref sig .tc := ⟨.hbm, 313, rfl⟩
abbrev main_while0b_c_62 : Ref sig .tc := ⟨.hbm, 314, rfl⟩
abbrev main_while0b_v183 : Ref sig .tc := ⟨.hbm, 315, rfl⟩
abbrev main_while0b_v184 : Ref sig .tc := ⟨.hbm, 316, rfl⟩
abbrev main_while0b_v185 : Ref sig .tc := ⟨.hbm, 317, rfl⟩
abbrev main_while0b_v186 : Ref sig .tc := ⟨.hbm, 318, rfl⟩
abbrev main_while0b_call8_v0 : Ref sig .tc := ⟨.hbm, 319, rfl⟩
abbrev main_while0b_call8_c : Ref sig .tc := ⟨.hbm, 320, rfl⟩
abbrev main_while0b_call8_c_0 : Ref sig .tc := ⟨.hbm, 321, rfl⟩
abbrev main_while0b_v187 : Ref sig .tc := ⟨.hbm, 322, rfl⟩
abbrev main_while0b_call9_v0 : Ref sig .tc := ⟨.hbm, 323, rfl⟩
abbrev main_while0b_call9_c : Ref sig .tc := ⟨.hbm, 324, rfl⟩
abbrev main_while0b_call9_c_0 : Ref sig .tc := ⟨.hbm, 325, rfl⟩
abbrev main_while0b_v188 : Ref sig .tc := ⟨.hbm, 326, rfl⟩
abbrev main_while0b_call10_v0 : Ref sig .tc := ⟨.hbm, 327, rfl⟩
abbrev main_while0b_call10_c : Ref sig .tc := ⟨.hbm, 328, rfl⟩
abbrev main_while0b_call10_c_0 : Ref sig .tc := ⟨.hbm, 329, rfl⟩
abbrev main_while0b_call10_c_1 : Ref sig .tc := ⟨.hbm, 330, rfl⟩
abbrev main_while0b_v189 : Ref sig .tc := ⟨.hbm, 331, rfl⟩
abbrev main_while0b_c_63 : Ref sig .tc := ⟨.hbm, 332, rfl⟩
abbrev main_while0b_v190 : Ref sig .tc := ⟨.hbm, 333, rfl⟩
abbrev main_v47 : Ref sig .tc := ⟨.hbm, 334, rfl⟩
abbrev main_v48 : Ref sig .tc := ⟨.hbm, 335, rfl⟩
abbrev main_v49 : Ref sig .tc := ⟨.hbm, 336, rfl⟩

abbrev nD : Nat := 1
abbrev τ : Topo := Topo.v7x

variable {F : FTy → Type} [FloatOps F]

abbrev main_while0_count : Scf.Loop 32 := ⟨0#32, 32#32, 1#32⟩
-- ==== Proof.RefFrame.lean ====
/-
  The reference's frame: no host operation of the reference writes an argument, so every argument array ends as launched.
-/
module

public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.Value

variable {F : FTy → Type} [FloatOps F]

/-- The arguments of the reference. -/
abbrev argRefs : List (Ref sig .tc) := [main_arg0, main_arg1, main_arg2, main_arg3, main_arg4, main_arg5, main_arg6,
  main_arg7, main_arg8, main_arg9, main_arg10, main_arg11]

/-- `hostOps0` writes no argument. -/
theorem keep_hostOps0 (V : Valuation τ sig (Elt F)) : ∀ a ∈ argRefs, after hostOps0 V (Proc.devRef .tc a) = V (Proc.devRef .tc a) :=
  fun a ha => after_of_writes_sub hostOps0 V hostOps0_writes (ListAll.forall_mem_of_all_decide (p := fun a => a ∉ hostOps0_W) (by decide +kernel) a ha)

/-- `hostOps0_1` writes no argument. -/
theorem keep_hostOps0_1 (V : Valuation τ sig (Elt F)) : ∀ a ∈ argRefs, after hostOps0_1 V (Proc.devRef .tc a) = V (Proc.devRef .tc a) :=
  fun a ha => after_of_writes_sub hostOps0_1 V hostOps0_1_writes (ListAll.forall_mem_of_all_decide (p := fun a => a ∉ hostOps0_1_W) (by decide +kernel) a ha)

/-- `hostOps0_2` writes no argument. -/
theorem keep_hostOps0_2 (V : Valuation τ sig (Elt F)) : ∀ a ∈ argRefs, after hostOps0_2 V (Proc.devRef .tc a) = V (Proc.devRef .tc a) :=
  fun a ha => after_of_writes_sub hostOps0_2 V hostOps0_2_writes (ListAll.forall_mem_of_all_decide (p := fun a => a ∉ hostOps0_2_W) (by decide +kernel) a ha)

/-- `hostOps0_3` writes no argument. -/
theorem keep_hostOps0_3 (V : Valuation τ sig (Elt F)) : ∀ a ∈ argRefs, after hostOps0_3 V (Proc.devRef .tc a) = V (Proc.devRef .tc a) :=
  fun a ha => after_of_writes_sub hostOps0_3 V hostOps0_3_writes (ListAll.forall_mem_of_all_decide (p := fun a => a ∉ hostOps0_3_W) (by decide +kernel) a ha)

/-- `while0Ops0` writes no argument. -/
theorem keep_while0Ops0 (V : Valuation τ sig (Elt F)) : ∀ a ∈ argRefs, after while0Ops0 V (Proc.devRef .tc a) = V (Proc.devRef .tc a) :=
  fun a ha => after_of_writes_sub while0Ops0 V while0Ops0_writes (ListAll.forall_mem_of_all_decide (p := fun a => a ∉ while0Ops0_W) (by decide +kernel) a ha)

/-- `while0Ops0_1` writes no argument. -/
theorem keep_while0Ops0_1 (V : Valuation τ sig (Elt F)) : ∀ a ∈ argRefs, after while0Ops0_1 V (Proc.devRef .tc a) = V (Proc.devRef .tc a) :=
  fun a ha => after_of_writes_sub while0Ops0_1 V while0Ops0_1_writes (ListAll.forall_mem_of_all_decide (p := fun a => a ∉ while0Ops0_1_W) (by decide +kernel) a ha)

/-- `while0Ops0_2` writes no argument. -/
theorem keep_while0Ops0_2 (V : Valuation τ sig (Elt F)) : ∀ a ∈ argRefs, after while0Ops0_2 V (Proc.devRef .tc a) = V (Proc.devRef .tc a) :=
  fun a ha => after_of_writes_sub while0Ops0_2 V while0Ops0_2_writes (ListAll.forall_mem_of_all_decide (p := fun a => a ∉ while0Ops0_2_W) (by decide +kernel) a ha)

/-- `while0Ops0_3` writes no argument. -/
theorem keep_while0Ops0_3 (V : Valuation τ sig (Elt F)) : ∀ a ∈ argRefs, after while0Ops0_3 V (Proc.devRef .tc a) = V (Proc.devRef .tc a) :=
  fun a ha => after_of_writes_sub while0Ops0_3 V while0Ops0_3_writes (ListAll.forall_mem_of_all_decide (p := fun a => a ∉ while0Ops0_3_W) (by decide +kernel) a ha)

/-- `while0Ops0_4` writes no argument. -/
theorem keep_while0Ops0_4 (V : Valuation τ sig (Elt F)) : ∀ a ∈ argRefs, after while0Ops0_4 V (Proc.devRef .tc a) = V (Proc.devRef .tc a) :=
  fun a ha => after_of_writes_sub while0Ops0_4 V while0Ops0_4_writes (ListAll.forall_mem_of_all_decide (p := fun a => a ∉ while0Ops0_4_W) (by decide +kernel) a ha)

/-- `while0Ops0_5` writes no argument. -/
theorem keep_while0Ops0_5 (V : Valuation τ sig (Elt F)) : ∀ a ∈ argRefs, after while0Ops0_5 V (Proc.devRef .tc a) = V (Proc.devRef .tc a) :=
  fun a ha => after_of_writes_sub while0Ops0_5 V while0Ops0_5_writes (ListAll.forall_mem_of_all_decide (p := fun a => a ∉ while0Ops0_5_W) (by decide +kernel) a ha)

/-- `while0Ops0_6` writes no argument. -/
theorem keep_while0Ops0_6 (V : Valuation τ sig (Elt F)) : ∀ a ∈ argRefs, after while0Ops0_6 V (Proc.devRef .tc a) = V (Proc.devRef .tc a) :=
  fun a ha => after_of_writes_sub while0Ops0_6 V while0Ops0_6_writes (ListAll.forall_mem_of_all_decide (p := fun a => a ∉ while0Ops0_6_W) (by decide +kernel) a ha)

/-- `while0Ops0_7` writes no argument. -/
theorem keep_while0Ops0_7 (V : Valuation τ sig (Elt F)) : ∀ a ∈ argRefs, after while0Ops0_7 V (Proc.devRef .tc a) = V (Proc.devRef .tc a) :=
  fun a ha => after_of_writes_sub while0Ops0_7 V while0Ops0_7_writes (ListAll.forall_mem_of_all_decide (p := fun a => a ∉ while0Ops0_7_W) (by decide +kernel) a ha)

/-- `while0Ops0_8` writes no argument. -/
theorem keep_while0Ops0_8 (V : Valuation τ sig (Elt F)) : ∀ a ∈ argRefs, after while0Ops0_8 V (Proc.devRef .tc a) = V (Proc.devRef .tc a) :=
  fun a ha => after_of_writes_sub while0Ops0_8 V while0Ops0_8_writes (ListAll.forall_mem_of_all_decide (p := fun a => a ∉ while0Ops0_8_W) (by decide +kernel) a ha)

/-- `while0Ops0_9` writes no argument. -/
theorem keep_while0Ops0_9 (V : Valuation τ sig (Elt F)) : ∀ a ∈ argRefs, after while0Ops0_9 V (Proc.devRef .tc a) = V (Proc.devRef .tc a) :=
  fun a ha => after_of_writes_sub while0Ops0_9 V while0Ops0_9_writes (ListAll.forall_mem_of_all_decide (p := fun a => a ∉ while0Ops0_9_W) (by decide +kernel) a ha)

/-- `while0Ops0_10` writes no argument. -/
theorem keep_while0Ops0_10 (V : Valuation τ sig (Elt F)) : ∀ a ∈ argRefs, after while0Ops0_10 V (Proc.devRef .tc a) = V (Proc.devRef .tc a) :=
  fun a ha => after_of_writes_sub while0Ops0_10 V while0Ops0_10_writes (ListAll.forall_mem_of_all_decide (p := fun a => a ∉ while0Ops0_10_W) (by decide +kernel) a ha)

/-- `while0Ops0_11` writes no argument. -/
theorem keep_while0Ops0_11 (V : Valuation τ sig (Elt F)) : ∀ a ∈ argRefs, after while0Ops0_11 V (Proc.devRef .tc a) = V (Proc.devRef .tc a) :=
  fun a ha => after_of_writes_sub while0Ops0_11 V while0Ops0_11_writes (ListAll.forall_mem_of_all_decide (p := fun a => a ∉ while0Ops0_11_W) (by decide +kernel) a ha)

/-- `while0Ops0_12` writes no argument. -/
theorem keep_while0Ops0_12 (V : Valuation τ sig (Elt F)) : ∀ a ∈ argRefs, after while0Ops0_12 V (Proc.devRef .tc a) = V (Proc.devRef .tc a) :=
  fun a ha => after_of_writes_sub while0Ops0_12 V while0Ops0_12_writes (ListAll.forall_mem_of_all_decide (p := fun a => a ∉ while0Ops0_12_W) (by decide +kernel) a ha)

/-- `while0Ops0_13` writes no argument. -/
theorem keep_while0Ops0_13 (V : Valuation τ sig (Elt F)) : ∀ a ∈ argRefs, after while0Ops0_13 V (Proc.devRef .tc a) = V (Proc.devRef .tc a) :=
  fun a ha => after_of_writes_sub while0Ops0_13 V while0Ops0_13_writes (ListAll.forall_mem_of_all_decide (p := fun a => a ∉ while0Ops0_13_W) (by decide +kernel) a ha)

/-- `while0Ops0_14` writes no argument. -/
theorem keep_while0Ops0_14 (V : Valuation τ sig (Elt F)) : ∀ a ∈ argRefs, after while0Ops0_14 V (Proc.devRef .tc a) = V (Proc.devRef .tc a) :=
  fun a ha => after_of_writes_sub while0Ops0_14 V while0Ops0_14_writes (ListAll.forall_mem_of_all_decide (p := fun a => a ∉ while0Ops0_14_W) (by decide +kernel) a ha)

/-- `while0Ops0_15` writes no argument. -/
theorem keep_while0Ops0_15 (V : Valuation τ sig (Elt F)) : ∀ a ∈ argRefs, after while0Ops0_15 V (Proc.devRef .tc a) = V (Proc.devRef .tc a) :=
  fun a ha => after_of_writes_sub while0Ops0_15 V while0Ops0_15_writes (ListAll.forall_mem_of_all_decide (p := fun a => a ∉ while0Ops0_15_W) (by decide +kernel) a ha)

/-- `condOps` writes no argument. -/
theorem keep_condOps (V : Valuation τ sig (Elt F)) : ∀ a ∈ argRefs, after condOps V (Proc.devRef .tc a) = V (Proc.devRef .tc a) :=
  fun a ha => after_of_writes_sub condOps V condOps_writes (ListAll.forall_mem_of_all_decide (p := fun a => a ∉ condOps_W) (by decide +kernel) a ha)

/-- One trip of the loop writes no argument. -/
theorem keep_body (V : Valuation τ sig (Elt F)) (a) (ha : a ∈ argRefs) :
    afterL bodyI (after condOps V) (Proc.devRef .tc a) = V (Proc.devRef .tc a) := by
  simp only [afterL_cons, afterL_nil]
  rw [keep_while0Ops0_15 _ a ha, keep_while0Ops0_14 _ a ha, keep_while0Ops0_13 _ a ha, keep_while0Ops0_12 _ a ha, keep_while0Ops0_11 _ a ha, keep_while0Ops0_10 _ a ha, keep_while0Ops0_9 _ a ha, keep_while0Ops0_8 _ a ha, keep_while0Ops0_7 _ a ha, keep_while0Ops0_6 _ a ha, keep_while0Ops0_5 _ a ha, keep_while0Ops0_4 _ a ha, keep_while0Ops0_3 _ a ha, keep_while0Ops0_2 _ a ha, keep_while0Ops0_1 _ a ha, keep_while0Ops0 _ a ha, keep_condOps _ a ha]

variable (m : (ℓ : Loc nD τ sig) → Buf (Elt F) ℓ) (ρ : Dev nD → PrngReg)

/-- At the loop's entry every argument is as launched. -/
theorem entry_args (c : Dev nD) (a) (ha : a ∈ argRefs) :
    entryContents preI m c (Proc.devRef .tc a) = m ((c.tc : Thread nD τ).loc a) := by
  simp only [entryContents, afterL_cons, afterL_nil]
  rw [keep_hostOps0_2 _ a ha, keep_hostOps0_1 _ a ha, keep_hostOps0 _ a ha]

/-- Before every trip every argument is as launched. -/
theorem atK_args (c : Dev nD) (a) (ha : a ∈ argRefs) : ∀ k, atK m k c (Proc.devRef .tc a) = m ((c.tc : Thread nD τ).loc a)
  | 0 => entry_args m c a ha
  | k + 1 => (keep_body _ a ha).trans (atK_args c a ha k)

/-- At the end every argument is as launched. -/
theorem final_args (c : Dev nD) (a) (ha : a ∈ argRefs) :
    finalContents condOps preI bodyI postI 32 m c (Proc.devRef .tc a) = m ((c.tc : Thread nD τ).loc a) := by
  simp only [finalContents, afterL_cons, afterL_nil]
  rw [keep_hostOps0_3 _ a ha, keep_condOps _ a ha]
  exact atK_args m c a ha 32

/-- The reference runs, ends with its arguments unchanged, and every counter at zero. -/
theorem frame : θ_run (defs (F := F)) (onTc (τ := τ) (main (F := F))) ⟨m, fun _ => 0, ρ⟩ (fun r => (∀ c : Dev nD,

      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h c main_arg0 (by decide)).trans (final_args m c main_arg0 (by decide)),
      (h c main_arg1 (by decide)).trans (final_args m c main_arg1 (by decide)),
      (h c main_arg2 (by decide)).trans (final_args m c main_arg2 (by decide)),
      (h c main_arg3 (by decide)).trans (final_args m c main_arg3 (by decide)),
      (h c main_arg4 (by decide)).trans (final_args m c main_arg4 (by decide)),
      (h c main_arg5 (by decide)).trans (final_args m c main_arg5 (by decide)),
      (h c main_arg6 (by decide)).trans (final_args m c main_arg6 (by decide)),
      (h c main_arg7 (by decide)).trans (final_args m c main_arg7 (by decide)),
      (h c main_arg8 (by decide)).trans (final_args m c main_arg8 (by decide)),
      (h c main_arg9 (by decide)).trans (final_args m c main_arg9 (by decide)),
      (h c main_arg10 (by decide)).trans (final_args m c main_arg10 (by decide)),
      (h c main_arg11 (by decide)).trans (final_args m c main_arg11 (by decide))⟩,
      sem_eq_zero_of_no_sems (by decide) r.2⟩)
    (run_fold (F := F) m ρ)

end Cert.ReferenceIdeal.Hand

end
-- ==== Proof.KTrip.lean ====
/-
  One trip of the kernel's loop: what it hands to the next trip and what it stores, as functions of the arrays it reads and of what it was
  handed.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.KernelIdeal.Hand

open Cert.KernelIdeal Cert.KernelIdeal.Gen

/-- The arrays the loop reads whole. -/
structure KIn where
  xm : Vec Ideal S64x32 .i32
  Wt : Vec Ideal S512x512 .f32
  Ut : Vec Ideal S512x512 .f32
  Ws : Vec Ideal S512x512 .f32
  Us : Vec Ideal S512x512 .f32
  Wnt : Vec Ideal S1024x512 .f32
  cb : Vec Ideal S1024x256 .f32
  cbT : Vec Ideal S256x1024 .f32
  cbsq : Vec Ideal S1x1024 .f32

/-- What a trip hands to the next: the stack's words, the pointer's words, the two hidden arrays. -/
abbrev Car := IVec S64x66 32 × IVec S64x1 32 × FVec Ideal S64x512 .f32 × FVec Ideal S64x512 .f32

/-- The numbers 0 to 65 along each stack. -/
abbrev io66 : IVec S64x66 32 := iota .tc S64x66 32 [1] iota_S64x66_d1_w32
/-- The numbers 0 to 1023 along each codebook. -/
abbrev io1024 : IVec S64x1024 32 := iota .tc S64x1024 32 [1] iota_S64x1024_d1_w32
/-- The numbers 0 to 31 along each token row. -/
abbrev io32 : IVec S64x32 32 := iota .tc S64x32 32 [1] iota_S64x32_d1_w32
/-- The array of zeros of a state's shape. -/
abbrev zero512 : FVec Ideal S64x512 .f32 := constant S64x512 .f32 0x00000000#32

variable (I : KIn) (xe : Vec Ideal S1x64x256 .f32) (k : Fin k0_t1_loop.trips) (a : Car)

/-- The pointer after the pop. -/
def k46 : IVec S64x1 32 := k0_pay18 a.2.1
/-- The step mask. -/
def k53 : IVec S64x1 32 := k0_pay19 io32 (k0_pay1 (F := Ideal) I.xm) 0#32 1#32 k a.2.1
/-- The new token hidden row before tanh. -/
def k70 : FVec Ideal S64x512 .f32 := k0_pay21 io66 io1024 I.Wt I.Ut (k0_pay2 I.cb) (k0_pay4 I.cb) (k0_pay5 I.cb) a.1 a.2.1 a.2.2.1 xe
/-- The stack hidden row's part that comes from the embedding and the top row. -/
def k71 : FVec Ideal S64x512 .f32 := k0_pay22 io66 io1024 I.Ws (k0_pay2 I.cb) (k0_pay4 I.cb) (k0_pay5 I.cb) a.1 a.2.1 xe
/-- The new stack hidden row before tanh. -/
def k73 : FVec Ideal S64x512 .f32 := k0_pay23 I.Us a.2.2.2 (k71 I xe a) zero512
/-- tanh of the new token hidden row. -/
def k74 : FVec Ideal S64x512 .f32 := k0_pay24 (k70 I xe a)
/-- The two codes side by side. -/
def k78 : FVec Ideal S64x512 .f32 := k0_pay25 I.Us I.Wnt a.2.2.2 (k70 I xe a) (k71 I xe a) zero512
/-- The first code. -/
def k79 : FVec Ideal S64x256 .f32 := k0_pay26 I.Us I.Wnt a.2.2.2 (k70 I xe a) (k71 I xe a) zero512
/-- The nearest position found for the first code. -/
def k97 : IVec S64x1 32 := k0_pay28 io1024 I.Us I.Wnt (k0_pay6 I.cbT) (k0_pay7 I.cbsq) a.2.2.2 (k70 I xe a) (k71 I xe a) zero512
/-- The second candidate found for the first code. -/
def k109 : IVec S64x1 32 := k0_pay29 io1024 I.Us I.Wnt (k0_pay6 I.cbT) (k0_pay7 I.cbsq) a.2.2.2 (k70 I xe a) (k71 I xe a) zero512
/-- The leading parts of the codebook row looked up for the first code. -/
def k116 : FVec Ideal S64x256 .f32 :=
  k0_pay31 io1024 I.Us I.Wnt (k0_pay2 I.cb) (k0_pay4 I.cb) (k0_pay6 I.cbT) (k0_pay7 I.cbsq) a.2.2.2 (k70 I xe a) (k71 I xe a) zero512
/-- The last part of the codebook row looked up for the first code. -/
def k117 : FVec Ideal S64x256 .f32 :=
  k0_pay32 io1024 I.Us I.Wnt (k0_pay5 I.cb) (k0_pay6 I.cbT) (k0_pay7 I.cbsq) a.2.2.2 (k70 I xe a) (k71 I xe a) zero512
/-- The position settled on for the first code. -/
def k143 : IVec S64x1 32 :=
  k0_pay33 io1024 (k0_pay2 I.cb) (k0_pay4 I.cb) (k0_pay5 I.cb) (k79 I xe a) (k97 I xe a) (k109 I xe a) (k116 I xe a) (k117 I xe a)
/-- The position settled on for the second code. -/
def k208 : IVec S64x1 32 :=
  k0_pay39 io1024 (k0_pay2 I.cb) (k0_pay4 I.cb) (k0_pay5 I.cb) (k0_pay34 (k78 I xe a)) (k0_pay35 (k0_pay6 I.cbT) (k0_pay7 I.cbsq) (k78 I xe a))
    (k0_pay36 io1024 (k0_pay6 I.cbT) (k0_pay7 I.cbsq) (k78 I xe a)) (k0_pay37 io1024 (k0_pay6 I.cbT) (k0_pay7 I.cbsq) (k78 I xe a)) (k0_pay38 (F := Ideal))
/-- The first push mask. -/
def k209 : IVec S64x1 32 := k0_pay40 (k53 I k a) (k143 I xe a)
/-- The second push mask. -/
def k210 : IVec S64x1 32 :=
  k0_pay41 io1024 (k0_pay2 I.cb) (k0_pay4 I.cb) (k0_pay5 I.cb) (k53 I k a) (k0_pay34 (k78 I xe a)) (k0_pay35 (k0_pay6 I.cbT) (k0_pay7 I.cbsq) (k78 I xe a))
    (k0_pay36 io1024 (k0_pay6 I.cbT) (k0_pay7 I.cbsq) (k78 I xe a)) (k0_pay37 io1024 (k0_pay6 I.cbT) (k0_pay7 I.cbsq) (k78 I xe a)) (k0_pay38 (F := Ideal))
/-- Whether the first push happens. -/
def k212 : IVec S64x1 1 := k0_pay42 (k53 I k a) (k143 I xe a)

/-- What the trip hands on. -/
def kNext : Car :=
  (k0_pay13 a.1 (k46 a) (k143 I xe a) (k208 I xe a) (k210 I xe k a) (k212 I xe k a) (k0_pay43 (k46 a)),
    k0_pay14 (k46 a) (k210 I xe k a) (k212 I xe k a), k70 I xe a, k73 I xe a)

variable (𝒱 : Variants) (c : Dev nD) (bd : Option 𝒱.V) (arg0 : Memref sig .tc .vmem S32x64x256 .f32) (harg0 : arg0.IsWhole) (arg1 : Memref sig .tc .vmem S64x32 .i32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1024x512 .f32) (harg6 : arg6.IsWhole) (arg7 : Memref sig .tc .vmem S1024x256 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S32x64x512 .f32) (harg10 : arg10.IsWhole) (arg11 : Memref sig .tc .vmem S64x32x2 .i32) (harg11 : arg11.IsWhole) (arg12 : Memref sig .tc .vmem S32x64x512 .f32) (harg12 : arg12.IsWhole)
  (X : BufTy.Contents (Elt Ideal) arg0.view.ty)

/-- The embedding rows a trip loads. -/
def rowOf : Vec Ideal S1x64x256 .f32 :=
  View.readAt (Elt Ideal) arg0.view (Rect.unit (s := S32x64x256) (k0_off1 k) S1x64x256.size (k0_off1_inb k)).toLoadRect X

/-- What the trip hands on is `kNext`. -/
theorem tripR_eq : tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 io66 io1024 io32 I.xm I.Wt I.Ut I.Ws I.Us I.Wnt I.cb I.cbT I.cbsq X k a
    = kNext I (rowOf k arg0 X) k a := by
  unfold tripR_k0_t1
  unfold trip_k0_t1
  rfl

/-- The trip's one store of the first result. -/
theorem tripL_eq1 : (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 io66 io1024 io32 I.xm I.Wt I.Ut I.Ws I.Us I.Wnt I.cb I.cbT I.cbsq X k a).1
    = [⟨Rect.unit (s := S32x64x512) (k0_off2 k) S1x64x512.size (k0_off2_inb k), k0_pay15 (k74 I (rowOf k arg0 X) a)⟩] := by
  unfold tripL_k0_t1
  unfold trip_k0_t1
  rfl

/-- The trip's one store of the second result. -/
theorem tripL_eq2 : (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 io66 io1024 io32 I.xm I.Wt I.Ut I.Ws I.Us I.Wnt I.cb I.cbT I.cbsq X k a).2.1
    = [⟨Rect.unit (s := S64x32x2) (k0_off3 k) S64x1x2.size (k0_off3_inb k), k0_pay17 (k209 I (rowOf k arg0 X) k a) (k210 I (rowOf k arg0 X) k a)⟩] := by
  unfold tripL_k0_t1
  unfold trip_k0_t1
  rfl

/-- The trip's one store of the third result. -/
theorem tripL_eq3 : (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 io66 io1024 io32 I.xm I.Wt I.Ut I.Ws I.Us I.Wnt I.cb I.cbT I.cbsq X k a).2.2
    = [⟨Rect.unit (s := S32x64x512) (k0_off2 k) S1x64x512.size (k0_off2_inb k), k0_pay16 (k78 I (rowOf k arg0 X) a)⟩] := by
  unfold tripL_k0_t1
  unfold trip_k0_t1
  rfl

end Cert.KernelIdeal.Hand

end
-- ==== Proof.Spec.lean ====
/-
  The recurrence of one batch row, written out on plain functions: what both programs compute.
-/
module

public import Idealize.ShloMosaic.Lib.Pointwise
public import Idealize.ShloMosaic.Lib.Tactic.WordOmega

@[expose] public section

noncomputable section

open Idealize.ShloMosaic

namespace Cert.Rnn

/-- `k` is the first of the positions at which `D` is least. -/
def IsFirstMin {n : ℕ} (D : Fin n → EReal) (k : Fin n) : Prop := ∀ j, D k ≤ D j ∧ (j < k → D k < D j)

/-- There is at most one first position of the least value. -/
theorem IsFirstMin.unique {n : ℕ} {D : Fin n → EReal} {k l : Fin n} (hk : IsFirstMin D k) (hl : IsFirstMin D l) : k = l := by
  rcases lt_trichotomy k l with h | h | h
  · exact absurd ((hl k).2 h) (not_lt.2 (hk l).1)
  · exact h
  · exact absurd ((hk l).2 h) (not_lt.2 (hl k).1)

/-- There is a first position of the least value. -/
theorem exists_firstMin {n : ℕ} [NeZero n] (D : Fin n → EReal) : ∃ k, IsFirstMin D k := by
  obtain ⟨k0, h0⟩ := Finite.exists_min D
  obtain ⟨k, hk, hmin⟩ := WellFounded.has_min (wellFounded_lt (α := Fin n)) {k | ∀ j, D k ≤ D j} ⟨k0, h0⟩
  refine ⟨k, fun j => ⟨hk j, fun hj => ?_⟩⟩
  by_contra hc
  exact hmin j (fun i => (not_lt.1 hc).trans (hk i)) hj

/-- The first position of the least value. -/
def firstMin {n : ℕ} [NeZero n] (D : Fin n → EReal) : Fin n := (exists_firstMin D).choose

/-- The position named is the first of the least value. -/
theorem firstMin_spec {n : ℕ} [NeZero n] (D : Fin n → EReal) : IsFirstMin D (firstMin D) := (exists_firstMin D).choose_spec

/-- A position that is the first of the least value is the one named. -/
theorem IsFirstMin.eq {n : ℕ} [NeZero n] {D : Fin n → EReal} {k : Fin n} (h : IsFirstMin D k) : k = firstMin D := h.unique (firstMin_spec D)

/-- A word, read signed, clamped into the numbers below `n`. -/
def clampW (n : ℕ) (h : 0 < n) (w : BitVec 32) : Fin n := ⟨min w.toInt.toNat (n - 1), by omega⟩

/-- An index word with the negative ones counted from the end of an axis of `n`. -/
def wrapW (n w : BitVec 32) : BitVec 32 := Scalar.select (IntOp.cmpi .slt w 0#32) (IntOp.addi w n) w

/-- The embedding row of a token, one element of it; the fill where the token names no row. -/
def takeEmb (E : (⟨2, ![8192, 256]⟩ : Shape).Idx → EReal) (w : BitVec 32) (d : Fin 256) : EReal :=
  Scalar.select (IntOp.andi (IntOp.andi (IntOp.cmpi .sge (wrapW 8192#32 w) 0#32) (IntOp.cmpi .sle (wrapW 8192#32 w) 8191#32)) 1#1)
    (E (ix2 (clampW 8192 (by decide) (wrapW 8192#32 w)) d)) (Ideal.ofBits FTy.f32 2143289344#32)

/-- The arrays the recurrence reads. -/
structure Par where
  emb : (⟨2, ![8192, 256]⟩ : Shape).Idx → EReal
  Wt : (⟨2, ![512, 512]⟩ : Shape).Idx → EReal
  Ut : (⟨2, ![512, 512]⟩ : Shape).Idx → EReal
  Ws : (⟨2, ![512, 512]⟩ : Shape).Idx → EReal
  Us : (⟨2, ![512, 512]⟩ : Shape).Idx → EReal
  Wnt : (⟨2, ![1024, 512]⟩ : Shape).Idx → EReal
  cb : (⟨2, ![1024, 256]⟩ : Shape).Idx → EReal

/-- One batch row's state: the two hidden rows, the stack pointer, and for each place of the stack the number of the codebook row that
    it holds, 0 for the zero row. -/
structure Row where
  ht : Fin 512 → EReal
  hs : Fin 512 → EReal
  p : ℕ
  t : ℕ → Fin 1024

/-- The row a tag stands for. -/
def tagRow (cb : (⟨2, ![1024, 256]⟩ : Shape).Idx → EReal) (q : Fin 1024) (d : Fin 256) : EReal := if 0 < q.val then cb (ix2 q d) else 0

/-- The state before the first step. -/
def Row.init : Row := ⟨fun _ => 0, fun _ => 0, 1, fun _ => 0⟩

/-- A hidden row's update: the step's input times one matrix, the input in its two halves, and the hidden row times another. -/
def lin (W U : (⟨2, ![512, 512]⟩ : Shape).Idx → EReal) (xe top : Fin 256 → EReal) (h : Fin 512 → EReal) (n : Fin 512) : EReal :=
  (∑ k : Fin 256, xe k * W (ix2 ⟨k.val, by omega⟩ n)) + (∑ k : Fin 256, top k * W (ix2 ⟨256 + k.val, by omega⟩ n))
    + ∑ k : Fin 512, h k * U (ix2 k n)

variable (P : Par) (w : BitVec 32) (s : Row)

/-- The row on top of the stack. -/
def top (d : Fin 256) : EReal := tagRow P.cb (s.t (s.p - 1)) d

/-- The new token hidden row. -/
def ht' (n : Fin 512) : EReal := lin P.Wt P.Ut (takeEmb P.emb w) (top P s) s.ht n

/-- The new stack hidden row. -/
def hs' (n : Fin 512) : EReal := lin P.Ws P.Us (takeEmb P.emb w) (top P s) s.hs n

/-- The codes, both in one row. -/
def code (n : Fin 512) : EReal :=
  Ideal.tanh ((∑ x : Fin 512, Ideal.tanh (hs' P w s x) * P.Wnt (ix2 ⟨x.val, by omega⟩ n))
    + ∑ x : Fin 512, Ideal.tanh (ht' P w s x) * P.Wnt (ix2 ⟨512 + x.val, by omega⟩ n))

/-- One of the two codes. -/
def codeAt (i : Fin 2) (d : Fin 256) : EReal := code P w s ⟨i.val * 256 + d.val, by omega⟩

/-- The squared distance of a code from each codebook row. -/
def dist (cb : (⟨2, ![1024, 256]⟩ : Shape).Idx → EReal) (c : Fin 256 → EReal) (k : Fin 1024) : EReal :=
  ∑ d : Fin 256, (c d - cb (ix2 k d)) * (c d - cb (ix2 k d))

/-- The number of the nearest codebook row, the first of them. -/
def near (cb : (⟨2, ![1024, 256]⟩ : Shape).Idx → EReal) (c : Fin 256 → EReal) : Fin 1024 := firstMin (dist cb c)

/-- The quantised code. -/
def qi (i : Fin 2) : Fin 1024 := near P.cb (codeAt P w s i)

/-- 1 where the step counts: the token is no padding and the stack is not empty. -/
def sm : ℕ := if w ≠ 0#32 ∧ 0 < s.p then 1 else 0

/-- The push mask of a code. -/
def pm (i : Fin 2) : ℕ := (qi P w s i).val * sm w s

/-- 1 where a code is pushed. -/
def pv (i : Fin 2) : ℕ := if 0 < pm P w s i then 1 else 0

/-- One step of the recurrence. -/
def step : Row where
  ht := ht' P w s
  hs := hs' P w s
  p := s.p - 1 + pv P w s 0 + pv P w s 1
  t := fun j => if 0 < pm P w s 1 ∧ j = s.p - 1 + pv P w s 0 then qi P w s 1
    else if 0 < pm P w s 0 ∧ j = s.p - 1 then qi P w s 0 else s.t j

/-- The state before step `k` of a row of tokens. -/
def runRow (x : ℕ → BitVec 32) : ℕ → Row
  | 0 => Row.init
  | k + 1 => step P (x k) (runRow x k)

/-- The step mask is at most one. -/
theorem sm_le : sm w s ≤ 1 := by unfold sm; split_ifs <;> omega

/-- A push raises the pointer by at most one. -/
theorem pv_le (i : Fin 2) : pv P w s i ≤ 1 := by unfold pv; split_ifs <;> omega

/-- A push mask is below 1024. -/
theorem pm_lt (i : Fin 2) : pm P w s i < 1024 := by
  have h1 := sm_le w s
  have h2 := (qi P w s i).isLt
  unfold pm
  interval_cases sm w s <;> omega

/-- With the pointer at zero nothing is pushed. -/
theorem pv_zero (i : Fin 2) (h : s.p = 0) : pv P w s i = 0 := by simp [pv, pm, sm, h]

/-- The pointer rises by at most one a step. -/
theorem step_p_le : (step P w s).p ≤ s.p + 1 := by
  show s.p - 1 + pv P w s 0 + pv P w s 1 ≤ s.p + 1
  have h0 := pv_le P w s 0
  have h1 := pv_le P w s 1
  by_cases h : s.p = 0
  · rw [pv_zero P w s 0 h, pv_zero P w s 1 h]; omega
  · omega

/-- The pointer before step `k` is at most `k + 1`. -/
theorem runRow_p_le (x : ℕ → BitVec 32) (k : ℕ) : (runRow P x k).p ≤ k + 1 := by
  induction k with
  | zero => exact le_refl 1
  | succ k ih => exact (step_p_le P (x k) _).trans (by omega)

end Cert.Rnn

end
-- ==== Proof.Words.lean ====
/-
  The words of the stack's arithmetic, read as the numbers they hold; and the order facts of squared distances.
-/
module

public import proofs.«01_k».proof.Proof.Spec
public import Idealize.ShloMosaic.Lib.StableHlo.Predicate

@[expose] public section

noncomputable section

open Idealize.ShloMosaic

namespace Cert.Rnn

/-- A number below 2^31, written as a word, is above zero as a signed word exactly when it is above zero. -/
theorem sgt_zero (m : ℕ) (h : m < 2 ^ 31) : IntOp.cmpi .sgt (BitVec.ofNat 32 m) 0#32 = if 0 < m then 1#1 else 0#1 := by
  have := WordCmp.cmpi_sgt_ofNat (w := 32) (a := m) (b := 0) (by omega) (by omega)
  refine this.trans ?_
  by_cases h : 0 < m <;> simp [h]

/-- A choice by whether a word's number is positive. -/
theorem select_pos {α : Type} (m : ℕ) (h : m < 2 ^ 31) (a b : α) :
    Scalar.select (IntOp.cmpi .sgt (BitVec.ofNat 32 m) 0#32) a b = if 0 < m then a else b := by
  rw [sgt_zero m h]
  by_cases h : 0 < m <;> simp [h, Scalar.select]

/-- The popped pointer. -/
theorem pop_word (p : ℕ) (h : p < 2 ^ 31) : IntOp.maxsi (IntOp.subi (BitVec.ofNat 32 p) 1#32) 0#32 = BitVec.ofNat 32 (p - 1) := by
  by_cases hp : p = 0
  · subst hp; rfl
  · obtain ⟨q, rfl⟩ : ∃ q, p = q + 1 := ⟨p - 1, by omega⟩
    have e : IntOp.subi (BitVec.ofNat 32 (q + 1)) 1#32 = BitVec.ofNat 32 q := by
      apply BitVec.eq_of_toNat_eq
      simp only [IntOp.subi, BitVec.toNat_sub, BitVec.toNat_ofNat]
      omega
    rw [e]
    have hq := StableHlo.Predicate.toInt_ofNat_small q (by omega)
    have hs : (0#32).slt (BitVec.ofNat 32 q) = true ∨ q = 0 := by
      by_cases h0 : q = 0
      · exact .inr h0
      · refine .inl ?_
        rw [BitVec.slt, hq]
        simpa using Nat.pos_of_ne_zero h0
    show IntOp.maxsi (BitVec.ofNat 32 q) 0#32 = BitVec.ofNat 32 q
    unfold IntOp.maxsi
    rcases hs with hs | hs
    · rw [if_pos hs]
    · subst hs; rfl

/-- The step's mask. -/
theorem mask_word (w : BitVec 32) (s : Row) (h : s.p < 2 ^ 31) :
    IntOp.muli (BitVec.setWidth 32 (IntOp.cmpi .ne w 0#32)) (BitVec.setWidth 32 (IntOp.cmpi .sgt (BitVec.ofNat 32 s.p) 0#32)) = BitVec.ofNat 32 (sm w s) := by
  rw [sgt_zero s.p h]
  have hn : IntOp.cmpi .ne w 0#32 = if w ≠ 0#32 then 1#1 else 0#1 := by
    by_cases hw : w = 0#32
    · subst hw; rfl
    · have : (w != 0#32) = true := by simpa using hw
      simp [IntOp.cmpi, hw, this]
  rw [hn]
  unfold sm
  by_cases hw : w = 0#32 <;> by_cases hp : 0 < s.p <;> simp [hw, hp, IntOp.muli]

/-- The product of two numbers written as words is the word of their product. -/
theorem mul_word (a b : ℕ) : IntOp.muli (BitVec.ofNat 32 a) (BitVec.ofNat 32 b) = BitVec.ofNat 32 (a * b) := (BitVec.ofNat_mul _ _).symm

/-- A pointer raised where a push happens. -/
theorem push_word (a m : ℕ) (h : m < 2 ^ 31) :
    IntOp.addi (BitVec.ofNat 32 a) (BitVec.setWidth 32 (IntOp.cmpi .sgt (BitVec.ofNat 32 m) 0#32)) = BitVec.ofNat 32 (a + if 0 < m then 1 else 0) := by
  rw [sgt_zero m h, BitVec.ofNat_add]
  by_cases h : 0 < m <;> simp [h, IntOp.addi]

/-- The root is strictly monotone on what is not negative. -/
theorem sqrt_lt {a b : EReal} (ha : 0 ≤ a) (h : a < b) : Ideal.sqrt a < Ideal.sqrt b := by
  induction a using EReal.rec with
  | bot => exact absurd ha (by simp)
  | top => exact absurd h not_top_lt
  | coe x =>
    have hx : 0 ≤ x := EReal.coe_nonneg.1 ha
    induction b using EReal.rec with
    | bot => exact absurd h not_lt_bot
    | top => rw [Ideal.sqrt_top, Ideal.sqrt_coe, if_neg (not_lt.2 hx)]; exact EReal.coe_lt_top _
    | coe y =>
      have hxy : x < y := EReal.coe_lt_coe_iff.1 h
      rw [Ideal.sqrt_coe, Ideal.sqrt_coe, if_neg (not_lt.2 hx), if_neg (not_lt.2 (hx.trans hxy.le))]
      exact EReal.coe_lt_coe_iff.2 (Real.sqrt_lt_sqrt hx hxy)

/-- A square of an extended real is not below zero. -/
theorem mul_self_nonneg' (a : EReal) : 0 ≤ a * a := by
  induction a using EReal.rec with
  | bot => simp
  | top => simp
  | coe x => rw [← EReal.coe_mul]; exact EReal.coe_nonneg.2 (mul_self_nonneg x)

/-- A squared distance is not below zero. -/
theorem dist_nonneg (cb : (⟨2, ![1024, 256]⟩ : Shape).Idx → EReal) (c : Fin 256 → EReal) (k : Fin 1024) : 0 ≤ dist cb c k :=
  Finset.sum_nonneg fun _ _ => mul_self_nonneg' _

/-- The nearest by the distance is the nearest by its square. -/
theorem firstMin_sqrt {n : ℕ} [NeZero n] (D : Fin n → EReal) (h : ∀ k, 0 ≤ D k) : firstMin (fun k => Ideal.sqrt (D k)) = firstMin D := by
  refine (IsFirstMin.eq fun j => ⟨?_, fun hj => sqrt_lt (h _) ((firstMin_spec D j).2 hj)⟩).symm
  rcases (firstMin_spec D j).1.lt_or_eq with hl | he
  · exact (sqrt_lt (h _) hl).le
  · exact (congrArg Ideal.sqrt he).le

end Cert.Rnn

end
-- ==== Proof.KQuant.lean ====
/-
  The kernel's search for the nearest codebook row: the first position of the least value as its words find it, a codebook row taken by
  a one-hot product, and the better of the two candidates.
-/
module

public import proofs.«01_k».proof.Proof.Words
public import Idealize.ShloMosaic.Lib.PlanTiles.Rows

@[expose] public section

set_option maxRecDepth 16384

noncomputable section

open Idealize.ShloMosaic

namespace Cert.Rnn

/-- A fold of the word minimum over small numbers is the least of the numbers. -/
theorem fold_minsi_nat {ι : Type*} [DecidableEq ι] (S : Finset ι) (g : ι → ℕ) (z : ℕ) (hz : z < 2 ^ 31) (hg : ∀ i, g i < 2 ^ 31) :
    Finset.fold IntOp.minsi (BitVec.ofNat 32 z) (fun i => BitVec.ofNat 32 (g i)) S = BitVec.ofNat 32 (Finset.fold min z g S) := by
  induction S using Finset.induction_on with
  | empty => rfl
  | insert a S ha ih =>
    rw [Finset.fold_insert ha, Finset.fold_insert ha, ih, PlanTiles.minsi_word (hg a), min_comm]
    exact lt_of_le_of_lt ((Finset.fold_min_le _).2 (.inl (le_refl z))) hz

/-- The least value is the value at its first position. -/
theorem fold_min_first (D : Fin 1024 → EReal) :
    Finset.fold min (Ideal.ofBits FTy.f32 2139095040#32) D Finset.univ = D (firstMin D) := by
  have htop : Ideal.ofBits .f32 0x7F800000#32 = ⊤ := by simp [Ideal.ofBits, Ideal.ieee]
  rw [htop]
  refine le_antisymm ((Finset.fold_min_le _).2 (.inr ⟨_, Finset.mem_univ _, le_refl _⟩)) ((Finset.le_fold_min _).2 ⟨le_top, fun j _ => ?_⟩)
  exact (firstMin_spec D j).1

/-- The comparison for equality of two extended reals, as a bit. -/
theorem cmpf_oeq (a b : EReal) : FloatOps.cmpf (F := Ideal) (φ := .f32) .oeq a b = if a = b then 1#1 else 0#1 := by
  by_cases h : a = b <;> simp [Ideal.cmpf_def, Ideal.cmp, h]

/-- The comparison for less of two extended reals, as a bit. -/
theorem cmpf_olt (a b : EReal) : FloatOps.cmpf (F := Ideal) (φ := .f32) .olt a b = if a < b then 1#1 else 0#1 := by
  by_cases h : a < b <;> simp [Ideal.cmpf_def, Ideal.cmp, h]

/-- The comparison for equality of two numbers written as words, as a bit. -/
theorem cmpi_eq_ofNat (a b : ℕ) (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      rw [BitVec.toNat_ofNat, BitVec.toNat_ofNat] at this; omega)
    have e : (BitVec.ofNat 32 a == BitVec.ofNat 32 b) = false := by simpa using this
    simp [IntOp.cmpi, h, e]

/-- The least of the positions at which the value is the least one: the first of them. -/
theorem argmin_words (D : Fin 1024 → EReal) :
    Finset.fold IntOp.minsi (2147483647#32) (fun x : Fin 1024 => Scalar.select
        (FloatOps.cmpf (F := Ideal) (φ := .f32) .oeq (D x) (Finset.fold min (Ideal.ofBits FTy.f32 2139095040#32) D Finset.univ))
        (BitVec.ofNat 32 x.val) 1024#32) Finset.univ
      = BitVec.ofNat 32 (firstMin D).val := by
  rw [fold_min_first]
  have h1 : (fun x : Fin 1024 => Scalar.select (FloatOps.cmpf (F := Ideal) (φ := .f32) .oeq (D x) (D (firstMin D))) (BitVec.ofNat 32 x.val) 1024#32)
      = fun x => BitVec.ofNat 32 (if D x = D (firstMin D) then x.val else 1024) := by
    funext x
    rw [cmpf_oeq]
    by_cases h : D x = D (firstMin D) <;> simp [h, Scalar.select]
  rw [h1]
  refine (fold_minsi_nat Finset.univ _ 2147483647 (by omega) (fun i => by have := i.isLt; split_ifs <;> omega)).trans (congrArg _ ?_)
  have hk := (firstMin D).isLt
  refine le_antisymm ((Finset.fold_min_le _).2 (.inr ⟨firstMin D, Finset.mem_univ _, by simp⟩)) ((Finset.le_fold_min _).2 ⟨by omega, fun j _ => ?_⟩)
  split_ifs with h
  · by_contra hc
    exact absurd ((firstMin_spec D j).2 (not_le.1 hc)) (by rw [h]; exact lt_irrefl _)
  · omega

/-- The same, the choice written as a case. -/
theorem argmin_ite (D : Fin 1024 → EReal) :
    Finset.fold IntOp.minsi (2147483647#32) (fun x : Fin 1024 =>
        if D x = Finset.fold min (Ideal.ofBits FTy.f32 2139095040#32) D Finset.univ then BitVec.ofNat 32 x.val else 1024#32) Finset.univ
      = BitVec.ofNat 32 (firstMin D).val := by
  rw [← argmin_words D]
  refine congrArg (fun f => Finset.fold IntOp.minsi (2147483647#32) f Finset.univ) (funext fun x => ?_)
  rw [cmpf_oeq]
  by_cases h : D x = Finset.fold min (Ideal.ofBits FTy.f32 2139095040#32) D Finset.univ <;> simp [h, Scalar.select]

/-- A one-hot entry as a number. -/
theorem oneHot (b : BitVec 1) : FloatOps.sitofp (F := Ideal) FTy.f32 (BitVec.setWidth 32 b) = if b = 1#1 then (1 : EReal) else 0 := by
  have : b = 0#1 ∨ b = 1#1 := by revert b; decide
  rcases this with rfl | rfl
  · simp [FloatOps.sitofp]
  · simp [FloatOps.sitofp]

/-- The one-hot product of a codebook's column: the entry of the row marked, if one is. -/
theorem oneHot_sum (m : Fin 1024 → BitVec 1) (f : Fin 1024 → EReal) (k : Fin 1024) (c : Prop) [Decidable c] (hm : ∀ x, m x = 1#1 ↔ x = k ∧ c) :
    (∑ x : Fin 1024, FloatOps.sitofp (F := Ideal) FTy.f32 (BitVec.setWidth 32 (m x)) * f x) = if c then f k else 0 := by
  have : ∀ x, FloatOps.sitofp (F := Ideal) FTy.f32 (BitVec.setWidth 32 (m x)) * f x = if x = k then (if c then f x else 0) else 0 := by
    intro x
    rw [oneHot]
    by_cases h : x = k <;> by_cases hc : c <;> simp [h, hc, hm]
  rw [Finset.sum_congr rfl fun x _ => this x, Finset.sum_ite_eq']
  simp

/-- The choice between the nearest row and any other: the nearest. -/
theorem better (D : Fin 1024 → EReal) (hD : ∀ k, 0 ≤ D k) (k2 : Fin 1024) :
    Scalar.select (IntOp.ori (FloatOps.cmpf (F := Ideal) (φ := .f32) .olt (Ideal.sqrt (D k2)) (Ideal.sqrt (D (firstMin D))))
        (IntOp.andi (FloatOps.cmpf (F := Ideal) (φ := .f32) .oeq (Ideal.sqrt (D k2)) (Ideal.sqrt (D (firstMin D))))
          (IntOp.cmpi .slt (BitVec.ofNat 32 k2.val) (BitVec.ofNat 32 (firstMin D).val))))
      (BitVec.ofNat 32 k2.val) (BitVec.ofNat 32 (firstMin D).val) = BitVec.ofNat 32 (firstMin D).val := by
  have h := firstMin_spec (fun k => Ideal.sqrt (D k)) k2
  rw [firstMin_sqrt D hD] at h
  have h1 := k2.isLt
  have h2 := (firstMin D).isLt
  rw [cmpf_olt, cmpf_oeq, if_neg (not_lt.2 h.1), WordCmp.cmpi_slt_ofNat (by omega) (by omega)]
  by_cases hk : k2.val < (firstMin D).val
  · rw [if_neg (ne_of_gt (h.2 hk))]
    simp [Scalar.select, IntOp.ori, IntOp.andi]
  · rw [decide_eq_false hk]
    split_ifs <;> simp [Scalar.select, IntOp.ori, IntOp.andi]

/-- The squared distance written out: the two squared norms less twice the product, all of them finite. -/
theorem dist_expand (cb : (⟨2, ![1024, 256]⟩ : Shape).Idx → EReal) (hcb : ∀ i, cb i ≠ ⊤ ∧ cb i ≠ ⊥) (c : Fin 256 → EReal)
    (hc : ∀ d, c d ≠ ⊤ ∧ c d ≠ ⊥) (k : Fin 1024) :
    (∑ d : Fin 256, c d * c d) + (∑ d : Fin 256, cb (ix2 k d) * cb (ix2 k d))
      - Ideal.ofBits FTy.f32 1073741824#32 * ∑ d : Fin 256, c d * cb (ix2 k d) = dist cb c k := by
  obtain ⟨f, rfl⟩ : ∃ f : Fin 256 → ℝ, c = fun d => (f d : EReal) := ⟨fun d => (c d).toReal, funext fun d => (EReal.coe_toReal (hc d).1 (hc d).2).symm⟩
  obtain ⟨g, hg⟩ : ∃ g : Fin 256 → ℝ, ∀ d, cb (ix2 k d) = (g d : EReal) := ⟨fun d => (cb (ix2 k d)).toReal, fun d => (EReal.coe_toReal (hcb _).1 (hcb _).2).symm⟩
  have h2 : Ideal.ofBits FTy.f32 1073741824#32 = ((2 : ℝ) : EReal) := by
    have e : 1073741824 >>> 23 % 256 = 128 := by decide
    have e1 : BitVec.extractLsb' 31 1 1073741824#32 ≠ 1#1 := by decide
    simp only [Ideal.ofBits, Ideal.ieee]
    norm_num [e, e1]
  have hs : ∀ u : Fin 256 → ℝ, (∑ d : Fin 256, ((u d : ℝ) : EReal)) = ((∑ d : Fin 256, u d : ℝ) : EReal) := fun u =>
    (map_sum (⟨⟨fun r : ℝ => (r : EReal), EReal.coe_zero⟩, EReal.coe_add⟩ : ℝ →+ EReal) u Finset.univ).symm
  unfold dist
  simp only [hg, h2, ← EReal.coe_mul, ← EReal.coe_sub, hs, ← EReal.coe_add]
  refine congrArg _ ?_
  rw [Finset.mul_sum, ← Finset.sum_add_distrib, ← Finset.sum_sub_distrib]
  exact Finset.sum_congr rfl fun d _ => by ring

/-- tanh is always a real number. -/
theorem tanh_finite (x : EReal) : Ideal.tanh x ≠ ⊤ ∧ Ideal.tanh x ≠ ⊥ := by
  induction x using EReal.rec with
  | bot => rw [Ideal.tanh_bot]; exact ⟨EReal.coe_ne_top (-1), EReal.coe_ne_bot (-1)⟩
  | top => rw [Ideal.tanh_top]; exact ⟨EReal.coe_ne_top 1, EReal.coe_ne_bot 1⟩
  | coe x => rw [Ideal.tanh_coe]; exact ⟨EReal.coe_ne_top _, EReal.coe_ne_bot _⟩

end Cert.Rnn

end
-- ==== Proof.KStep.lean ====
/-
  One trip of the kernel's loop, read at one batch row: it is one step of the recurrence.
-/
module

public import proofs.«01_k».proof.Proof.KTrip
public import proofs.«01_k».proof.Proof.KQuant

@[expose] public section

set_option maxRecDepth 16384

noncomputable section

open Idealize.ShloMosaic Idealize.ShloMosaic.Pipeline

namespace Cert.KernelIdeal.Hand

open Cert.KernelIdeal Cert.KernelIdeal.Gen Cert.Rnn

/-- A word sum in which one position counts. -/
theorem fold_addi_one {n : ℕ} (hn : n < 2 ^ 32) (f : Fin n → BitVec 32) (k : Fin n) :
    Finset.fold IntOp.addi (0#32) (fun x : Fin n => Scalar.select (IntOp.cmpi .eq (BitVec.ofNat 32 x.val) (BitVec.ofNat 32 k.val)) (f x) 0#32) Finset.univ
      = f k := by
  have h : ∀ x : Fin n, Scalar.select (IntOp.cmpi .eq (BitVec.ofNat 32 x.val) (BitVec.ofNat 32 k.val)) (f x) 0#32 = if x = k then f x else 0#32 := by
    intro x
    rw [cmpi_eq_ofNat _ _ (x.isLt.trans hn) (k.isLt.trans hn)]
    by_cases hx : x = k
    · subst hx; simp [Scalar.select]
    · have : ¬ x.val = k.val := fun e => hx (Fin.ext e)
      simp [hx, this, Scalar.select]
  have hS : ∀ S : Finset (Fin n), Finset.fold IntOp.addi (0#32) (fun x : Fin n => if x = k then f x else 0#32) S = if k ∈ S then f k else 0#32 := by
    intro S
    induction S using Finset.induction_on with
    | empty => rfl
    | insert a S ha ih =>
      rw [Finset.fold_insert ha, ih]
      by_cases hak : a = k
      · subst hak; simp [ha, IntOp.addi]
      · have : ¬ k = a := fun e => hak e.symm
        simp [hak, this, IntOp.addi]
  rw [funext h, hS, if_pos (Finset.mem_univ k)]

/-- A sum over 512 in its two halves. -/
theorem sum512 (f : Fin 512 → EReal) : (∑ x : Fin 512, f x) = (∑ x : Fin 256, f ⟨x.val, by omega⟩) + ∑ x : Fin 256, f ⟨256 + x.val, by omega⟩ :=
  Fin.sum_univ_add (a := 256) (b := 256) f

section
variable (cb : S1024x256.Idx → EReal) (hcb : ∀ i, cb i ≠ ⊤ ∧ cb i ≠ ⊥)

/-- The rounded codebook is the codebook. -/
theorem pay2_eq : k0_pay2 (F := Ideal) cb = cb := by
  funext i
  idx_vars i
  unfold_payloads
  pointwise

include hcb

/-- The codebook less its rounded self is zero, where the codebook is finite. -/
theorem pay3_eq : k0_pay3 (F := Ideal) cb = fun _ => (0 : EReal) := by
  funext i
  unfold k0_pay3
  rw [pay2_eq]
  show cb i - cb i = 0
  exact EReal.sub_self (hcb i).1 (hcb i).2

/-- The second part of the split codebook is zero, where the codebook is finite. -/
theorem pay4_eq : k0_pay4 (F := Ideal) cb = fun _ => (0 : EReal) := by
  funext i
  idx_vars i
  unfold k0_pay4
  rw [pay3_eq cb hcb]
  pointwise

/-- The third part of the split codebook is zero, where the codebook is finite. -/
theorem pay5_eq : k0_pay5 (F := Ideal) cb = fun _ => (0 : EReal) := by
  funext i
  unfold k0_pay5
  rw [pay3_eq cb hcb, pay4_eq cb hcb]
  show (0 : EReal) - 0 = 0
  simp

end

/-- The mark of one row. -/
theorem mark_iff (x k : Fin 1024) : IntOp.cmpi .eq (BitVec.ofNat 32 x.val) (BitVec.ofNat 32 k.val) = 1#1 ↔ x = k ∧ True := by
  rw [cmpi_eq_ofNat _ _ (by omega) (by omega)]
  by_cases h : x = k
  · subst h; simp
  · have : ¬ x.val = k.val := fun e => h (Fin.ext e)
    simp [h, this]

/-- The mark of the row on top, where there is one. -/
theorem mark_top_iff (x k : Fin 1024) :
    IntOp.andi (IntOp.cmpi .eq (BitVec.ofNat 32 x.val) (BitVec.ofNat 32 k.val)) (IntOp.cmpi .sgt (BitVec.ofNat 32 k.val) 0#32) = 1#1 ↔ x = k ∧ 0 < k.val := by
  rw [cmpi_eq_ofNat _ _ (by omega) (by omega), sgt_zero k.val (by omega)]
  by_cases h : x = k
  · subst h; by_cases h0 : 0 < x.val <;> simp [h0, IntOp.andi]
  · have : ¬ x.val = k.val := fun e => h (Fin.ext e)
    by_cases h0 : 0 < k.val <;> simp [h, this, h0, IntOp.andi]

/-- The loop's arrays hold the recurrence's arrays: the codebook's transpose, its rows' squared norms, and which tokens are no padding. -/
structure InOk (P : Par) (tok : Fin 64 → Fin 32 → BitVec 32) (I : KIn) : Prop where
  xm : ∀ b s, I.xm (ix2 b s) = BitVec.setWidth 32 (IntOp.cmpi .ne (tok b s) 0#32)
  Wt : I.Wt = P.Wt
  Ut : I.Ut = P.Ut
  Ws : I.Ws = P.Ws
  Us : I.Us = P.Us
  Wnt : I.Wnt = P.Wnt
  cb : I.cb = P.cb
  cbT : ∀ d k, (I.cbT (ix2 d k) : EReal) = P.cb (ix2 k d)
  cbsq : ∀ k, (I.cbsq (ix2 (0 : Fin 1) k) : EReal) = ∑ d : Fin 256, P.cb (ix2 k d) * P.cb (ix2 k d)
  fin : ∀ i, P.cb i ≠ ⊤ ∧ P.cb i ≠ ⊥

/-- What a trip is handed is, at a batch row, the recurrence's state of the row. -/
structure Rel (a : Car) (b : Fin 64) (s : Row) : Prop where
  stk : ∀ j : Fin 66, a.1 (ix2 b j) = BitVec.ofNat 32 (s.t j.val).val
  ptr : a.2.1 (ix2 b (0 : Fin 1)) = BitVec.ofNat 32 s.p
  ht : ∀ n : Fin 512, (a.2.2.1 (ix2 b n) : EReal) = s.ht n
  hs : ∀ n : Fin 512, (a.2.2.2 (ix2 b n) : EReal) = s.hs n

variable {P : Par} {tok : Fin 64 → Fin 32 → BitVec 32} {I : KIn} (H : InOk P tok I) {xe : Vec Ideal S1x64x256 .f32} {k : Fin k0_t1_loop.trips} {a : Car}
  {b : Fin 64} {s : Row} {w : BitVec 32} (hp : s.p ≤ 65) (R : Rel a b s)
  (hxe : ∀ d : Fin 256, (xe (ix3 (0 : Fin 1) b d) : EReal) = takeEmb P.emb w d)

include hp R in
/-- The pointer after the pop is the recurrence's pointer less one. -/
theorem l46 : k46 a (ix2 b (0 : Fin 1)) = BitVec.ofNat 32 (s.p - 1) := by
  unfold k46
  unfold_payloads
  pointwise
  rw [R.ptr]
  exact pop_word s.p (by omega)

include hp R H in
/-- The step mask is the recurrence's. -/
theorem l53 (hk : k.val < 32) (hw : w = tok b ⟨k.val, hk⟩) : k53 I k a (ix2 b (0 : Fin 1)) = BitVec.ofNat 32 (sm w s) := by
  unfold k53
  unfold_payloads
  pointwise
  have hiv : Scf.iv 0#32 1#32 k.val = BitVec.ofNat 32 (⟨k.val, hk⟩ : Fin 32).val := by
    simp [Scf.iv]
  rw [hiv, fold_addi_one (by omega) _ ⟨k.val, hk⟩, R.ptr, H.xm, ← hw]
  exact mask_word w s (by omega)

/-- The step's input: the token's embedding, then the row on top of the stack. -/
theorem l20_lo (v14 v19 v20 : S1024x256.Idx → EReal) (d : Fin 256) :
    (k0_pay20 (F := Ideal) io66 io1024 v14 v19 v20 a.1 a.2.1 xe (ix2 b ⟨d.val, Nat.lt_of_lt_of_le d.isLt (by decide)⟩) : EReal) = xe (ix3 (0 : Fin 1) b d) := by
  unfold k0_pay20
  pointwise

include hp R in
/-- The upper 256 entries of the joined row are the row that the tag below the pointer stands for. -/
theorem l20_hi (cb : S1024x256.Idx → EReal) (d : Fin 256) :
    (k0_pay20 (F := Ideal) io66 io1024 cb (fun _ => (0 : EReal)) (fun _ => (0 : EReal)) a.1 a.2.1 xe (ix2 b ⟨256 + d.val, by omega⟩) : EReal)
      = tagRow cb (s.t (s.p - 1)) d := by
  unfold k0_pay20
  pointwise
  have hj : k0_pay18 a.2.1 (ix2 b (0 : Fin 1)) = BitVec.ofNat 32 (⟨s.p - 1, by omega⟩ : Fin 66).val := l46 hp R
  rw [hj, fold_addi_one (by omega) _ ⟨s.p - 1, by omega⟩, R.stk]
  rw [oneHot_sum _ _ (s.t (s.p - 1)) (0 < (s.t (s.p - 1)).val) fun x => mark_top_iff x _]
  simp only [mul_zero, Finset.sum_const_zero, add_zero]
  rfl

include hp R hxe in
/-- A hidden row's product with the step's input. -/
theorem l_in (cb : S1024x256.Idx → EReal) (hcbP : cb = P.cb) (W : S512x512.Idx → EReal) (n : Fin 512) :
    (∑ x : Fin 512, (k0_pay20 (F := Ideal) io66 io1024 cb (fun _ => (0 : EReal)) (fun _ => (0 : EReal)) a.1 a.2.1 xe (ix2 b x) : EReal) * W (ix2 x n))
      = (∑ x : Fin 256, takeEmb P.emb w x * W (ix2 ⟨x.val, by omega⟩ n)) + ∑ x : Fin 256, top P s x * W (ix2 ⟨256 + x.val, by omega⟩ n) := by
  subst hcbP
  rw [sum512]
  congr 1
  · refine Finset.sum_congr rfl fun x _ => ?_
    rw [l20_lo, hxe]
  · refine Finset.sum_congr rfl fun x _ => ?_
    rw [l20_hi (s := s) hp R]
    rfl

include hp R hxe H in
/-- The new token hidden row is the recurrence's. -/
theorem l70 (n : Fin 512) : (k70 I xe a (ix2 b n) : EReal) = ht' P w s n := by
  unfold k70
  rw [H.Wt, H.Ut, H.cb, pay2_eq, pay4_eq _ H.fin, pay5_eq _ H.fin]
  unfold k0_pay21
  pointwise
  rw [l_in hp R hxe P.cb rfl]
  unfold ht' lin
  congr 1
  exact Finset.sum_congr rfl fun x _ => by rw [R.ht]

include hp R hxe H in
/-- The stack hidden row's input part is the linear image of embedding and top row. -/
theorem l71 (n : Fin 512) : (k71 I xe a (ix2 b n) : EReal)
    = (∑ x : Fin 256, takeEmb P.emb w x * P.Ws (ix2 ⟨x.val, by omega⟩ n)) + ∑ x : Fin 256, top P s x * P.Ws (ix2 ⟨256 + x.val, by omega⟩ n) := by
  unfold k71
  rw [H.Ws, H.cb, pay2_eq, pay4_eq _ H.fin, pay5_eq _ H.fin]
  unfold k0_pay22
  pointwise
  exact l_in hp R hxe P.cb rfl P.Ws n

include hp R hxe H in
/-- The new stack hidden row is the recurrence's. -/
theorem l73 (n : Fin 512) : (k73 I xe a (ix2 b n) : EReal) = hs' P w s n := by
  unfold k73
  rw [H.Us]
  unfold k0_pay23
  pointwise
  rw [l71 H hp R hxe]
  unfold hs' lin
  congr 1
  exact Finset.sum_congr rfl fun x _ => by rw [R.hs]

include hp R hxe H in
/-- tanh of the new token hidden row is the recurrence's. -/
theorem l74 (n : Fin 512) : (k74 I xe a (ix2 b n) : EReal) = Ideal.tanh (ht' P w s n) := by
  unfold k74 k0_pay24
  pointwise
  rw [l70 H hp R hxe]

include hp R hxe H in
/-- The two codes, side by side, are the recurrence's. -/
theorem l78 (n : Fin 512) : (k78 I xe a (ix2 b n) : EReal) = code P w s n := by
  have h73 := l73 H hp R hxe
  unfold k73 k0_pay23 at h73
  pointwise at h73
  unfold k78
  rw [H.Wnt]
  unfold k0_pay25 k0_pay24 k0_pay23
  pointwise
  simp only [h73, l70 H hp R hxe]
  rfl

/-- The squared distances, as the kernel's words find them from a code's row. -/
theorem d27 (cbT : S256x1024.Idx → EReal) (cbsq : S1x1024.Idx → EReal) (cb : S1024x256.Idx → EReal) (hT : ∀ d k, cbT (ix2 d k) = cb (ix2 k d))
    (hsq : ∀ k, cbsq (ix2 (0 : Fin 1) k) = ∑ d : Fin 256, cb (ix2 k d) * cb (ix2 k d)) (hcb : ∀ i, cb i ≠ ⊤ ∧ cb i ≠ ⊥)
    (c : Fin 256 → EReal) (hc : ∀ d, c d ≠ ⊤ ∧ c d ≠ ⊥) (us : S512x512.Idx → EReal) (wnt : S1024x512.Idx → EReal) (y3 y1 y2 y4 : S64x512.Idx → EReal)
    (b : Fin 64) (h26 : ∀ d : Fin 256, (k0_pay26 (F := Ideal) us wnt y3 y1 y2 y4 (ix2 b d) : EReal) = c d) (k : Fin 1024) :
    (k0_pay27 (F := Ideal) us wnt (k0_pay6 (F := Ideal) cbT) (k0_pay7 (F := Ideal) cbsq) y3 y1 y2 y4 (ix2 b k) : EReal) = dist cb c k := by
  unfold k0_pay27 k0_pay6 k0_pay7
  pointwise
  simp only [h26, hT, hsq]
  exact dist_expand cb hcb c hc k

/-- The same, of the second code. -/
theorem d35 (cbT : S256x1024.Idx → EReal) (cbsq : S1x1024.Idx → EReal) (cb : S1024x256.Idx → EReal) (hT : ∀ d k, cbT (ix2 d k) = cb (ix2 k d))
    (hsq : ∀ k, cbsq (ix2 (0 : Fin 1) k) = ∑ d : Fin 256, cb (ix2 k d) * cb (ix2 k d)) (hcb : ∀ i, cb i ≠ ⊤ ∧ cb i ≠ ⊥)
    (c : Fin 256 → EReal) (hc : ∀ d, c d ≠ ⊤ ∧ c d ≠ ⊥) (v78 : S64x512.Idx → EReal)
    (b : Fin 64) (h34 : ∀ d : Fin 256, (k0_pay34 (F := Ideal) v78 (ix2 b d) : EReal) = c d) (k : Fin 1024) :
    (k0_pay35 (F := Ideal) (k0_pay6 (F := Ideal) cbT) (k0_pay7 (F := Ideal) cbsq) v78 (ix2 b k) : EReal) = dist cb c k := by
  unfold k0_pay35 k0_pay6 k0_pay7
  pointwise
  simp only [h34, hT, hsq]
  exact dist_expand cb hcb c hc k

/-- The choice of the first code's row. -/
theorem q33 (cb : S1024x256.Idx → EReal) (c : Fin 256 → EReal) (v79 : S64x256.Idx → EReal) (v97 v109 : S64x1.Idx → BitVec 32) (v116 v117 : S64x256.Idx → EReal)
    (b : Fin 64) (h79 : ∀ d, v79 (ix2 b d) = c d) (h97 : v97 (ix2 b (0 : Fin 1)) = BitVec.ofNat 32 (near cb c).val) (k2 : Fin 1024)
    (h109 : v109 (ix2 b (0 : Fin 1)) = BitVec.ofNat 32 k2.val) (h116 : ∀ d, v116 (ix2 b d) + v117 (ix2 b d) = cb (ix2 (near cb c) d)) :
    k0_pay33 (F := Ideal) io1024 cb (fun _ => (0 : EReal)) (fun _ => (0 : EReal)) v79 v97 v109 v116 v117 (ix2 b (0 : Fin 1)) = BitVec.ofNat 32 (near cb c).val := by
  unfold k0_pay33
  pointwise
  simp only [h79, h97, h109, h116, mul_zero, Finset.sum_const_zero, add_zero]
  have e : ∀ d : Fin 256, (∑ x : Fin 1024, FloatOps.sitofp (F := Ideal) FTy.f32 (BitVec.setWidth 32 (IntOp.cmpi .eq (BitVec.ofNat 32 x.val) (BitVec.ofNat 32 k2.val))) * cb (ix2 x d))
      = cb (ix2 k2 d) := fun d => (oneHot_sum _ (fun x => cb (ix2 x d)) k2 True fun x => mark_iff x k2).trans (if_pos trivial)
  simp only [e]
  exact better (dist cb c) (dist_nonneg cb c) k2

/-- The choice of the second code's row. -/
theorem q39 (cb : S1024x256.Idx → EReal) (c : Fin 256 → EReal) (v144 : S64x256.Idx → EReal) (v154 : S64x1024.Idx → EReal) (v162 : S64x1.Idx → BitVec 32)
    (v164 : S64x1024.Idx → BitVec 1) (v165 : S64x1024.Idx → EReal)
    (b : Fin 64) (h144 : ∀ d, v144 (ix2 b d) = c d) (h162 : v162 (ix2 b (0 : Fin 1)) = BitVec.ofNat 32 (near cb c).val) :
    k0_pay39 (F := Ideal) io1024 cb (fun _ => (0 : EReal)) (fun _ => (0 : EReal)) v144 v154 v162 v164 v165 (ix2 b (0 : Fin 1)) = BitVec.ofNat 32 (near cb c).val := by
  unfold k0_pay39
  pointwise
  rw [argmin_ite (fun x => Scalar.select (v164 (ix2 b x)) (v165 (ix2 b x)) (v154 (ix2 b x)))]
  generalize firstMin (fun x : Fin 1024 => Scalar.select (v164 (ix2 b x)) (v165 (ix2 b x)) (v154 (ix2 b x))) = k2
  simp only [h144, h162, mul_zero, Finset.sum_const_zero, add_zero]
  have e : ∀ (k2 : Fin 1024) (d : Fin 256), (∑ x : Fin 1024, FloatOps.sitofp (F := Ideal) FTy.f32 (BitVec.setWidth 32 (IntOp.cmpi .eq (BitVec.ofNat 32 x.val) (BitVec.ofNat 32 k2.val))) * cb (ix2 x d))
      = cb (ix2 k2 d) := fun k2 d => (oneHot_sum _ (fun x => cb (ix2 x d)) k2 True fun x => mark_iff x k2).trans (if_pos trivial)
  simp only [e]
  exact better (dist cb c) (dist_nonneg cb c) k2

include hp R hxe H in
/-- The lower 256 entries are the recurrence's first code. -/
theorem l79 (d : Fin 256) : (k79 I xe a (ix2 b d) : EReal) = codeAt P w s 0 d := by
  have h := l78 H hp R hxe (⟨d.val, by omega⟩ : Fin 512)
  unfold k79 k0_pay26
  pointwise
  refine h.trans ?_
  unfold codeAt
  exact congrArg (code P w s) (Fin.ext (by simp))

include hp R hxe H in
/-- The upper 256 entries are the recurrence's second code. -/
theorem l34 (d : Fin 256) : (k0_pay34 (k78 I xe a) (ix2 b d) : EReal) = codeAt P w s 1 d := by
  have h := l78 H hp R hxe (⟨256 + d.val, by omega⟩ : Fin 512)
  unfold k0_pay34
  pointwise
  refine h.trans ?_
  unfold codeAt
  exact congrArg (code P w s) (Fin.ext (by simp))

/-- Every entry of a code is a real number. -/
theorem codeAt_finite (i : Fin 2) (d : Fin 256) : codeAt P w s i d ≠ ⊤ ∧ codeAt P w s i d ≠ ⊥ := tanh_finite _

include hp R hxe H in
/-- The position found for the first code is the recurrence's. -/
theorem l97 : k97 I xe a (ix2 b (0 : Fin 1)) = BitVec.ofNat 32 (qi P w s 0).val := by
  have hd := d27 I.cbT I.cbsq P.cb H.cbT H.cbsq H.fin (codeAt P w s 0) (codeAt_finite 0) I.Us I.Wnt a.2.2.2 (k70 I xe a) (k71 I xe a) zero512 b (l79 H hp R hxe)
  unfold k97 k0_pay28
  pointwise
  rw [argmin_ite (fun x => k0_pay27 (F := Ideal) I.Us I.Wnt (k0_pay6 (F := Ideal) I.cbT) (k0_pay7 (F := Ideal) I.cbsq) a.2.2.2 (k70 I xe a) (k71 I xe a) zero512 (ix2 b x)), funext hd]
  rfl

include hp R hxe H in
/-- The position found for the second code is the recurrence's. -/
theorem l36 : k0_pay36 io1024 (k0_pay6 I.cbT) (k0_pay7 I.cbsq) (k78 I xe a) (ix2 b (0 : Fin 1)) = BitVec.ofNat 32 (qi P w s 1).val := by
  have hd := d35 I.cbT I.cbsq P.cb H.cbT H.cbsq H.fin (codeAt P w s 1) (codeAt_finite 1) (k78 I xe a) b (l34 H hp R hxe)
  unfold k0_pay36
  pointwise
  rw [argmin_ite (fun x => k0_pay35 (F := Ideal) (k0_pay6 (F := Ideal) I.cbT) (k0_pay7 (F := Ideal) I.cbsq) (k78 I xe a) (ix2 b x)), funext hd]
  rfl

/-- The second candidate for the first code is a position in the codebook. -/
theorem l109 : ∃ k2 : Fin 1024, k109 I xe a (ix2 b (0 : Fin 1)) = BitVec.ofNat 32 k2.val := by
  unfold k109 k0_pay29
  pointwise
  exact ⟨_, argmin_ite _⟩

include hp R hxe H in
/-- The parts of the codebook row looked up for the first code sum to the row at its nearest position. -/
theorem l116 (d : Fin 256) : (k116 I xe a (ix2 b d) : EReal) + k117 I xe a (ix2 b d) = P.cb (ix2 (qi P w s 0) d) := by
  have h97 := l97 H hp R hxe
  unfold k97 at h97
  unfold k116 k117
  rw [H.cb, pay2_eq, pay4_eq _ H.fin, pay5_eq _ H.fin]
  unfold k0_pay31 k0_pay32 k0_pay30
  pointwise
  rw [h97]
  simp only [mul_zero, Finset.sum_const_zero, add_zero]
  exact (oneHot_sum _ (fun x => P.cb (ix2 x d)) (qi P w s 0) True fun x => mark_iff x _).trans (if_pos trivial)

include hp R hxe H in
/-- The first code's row. -/
theorem l143 : k143 I xe a (ix2 b (0 : Fin 1)) = BitVec.ofNat 32 (qi P w s 0).val := by
  obtain ⟨k2, h2⟩ := l109 (I := I) (xe := xe) (a := a) (b := b)
  unfold k143
  rw [H.cb, pay2_eq, pay4_eq _ H.fin, pay5_eq _ H.fin]
  exact q33 P.cb (codeAt P w s 0) _ _ _ _ _ b (l79 H hp R hxe) (l97 H hp R hxe) k2 h2 (l116 H hp R hxe)

include hp R hxe H in
/-- The second code's row. -/
theorem l208 : k208 I xe a (ix2 b (0 : Fin 1)) = BitVec.ofNat 32 (qi P w s 1).val := by
  unfold k208
  rw [H.cb, pay2_eq, pay4_eq _ H.fin, pay5_eq _ H.fin]
  exact q39 P.cb (codeAt P w s 1) _ _ _ _ _ b (l34 H hp R hxe) (l36 H hp R hxe)

include hp R hxe H in
/-- The first code's push mask. -/
theorem l209 (hk : k.val < 32) (hw : w = tok b ⟨k.val, hk⟩) : k209 I xe k a (ix2 b (0 : Fin 1)) = BitVec.ofNat 32 (pm P w s 0) := by
  unfold k209 k0_pay40
  pointwise
  rw [l143 H hp R hxe, l53 H hp R hk hw, mul_word]
  rfl

include hp R hxe H in
/-- The second code's push mask. -/
theorem l210 (hk : k.val < 32) (hw : w = tok b ⟨k.val, hk⟩) : k210 I xe k a (ix2 b (0 : Fin 1)) = BitVec.ofNat 32 (pm P w s 1) := by
  have h := l208 H hp R hxe
  unfold k208 at h
  unfold k210 k0_pay41
  pointwise
  rw [h, l53 H hp R hk hw, mul_word]
  rfl

include hp R hxe H in
/-- The first push happens exactly where its mask is above zero. -/
theorem l212 (hk : k.val < 32) (hw : w = tok b ⟨k.val, hk⟩) : k212 I xe k a (ix2 b (0 : Fin 1)) = if 0 < pm P w s 0 then 1#1 else 0#1 := by
  have h := l209 H hp R hxe hk hw
  unfold k209 at h
  unfold k212 k0_pay42
  pointwise
  rw [h, sgt_zero _ ((pm_lt P w s 0).trans (by omega))]

/-- A write at one place of the stack, where the mask is set. -/
theorem select_push {α : Type} (j n : ℕ) (hj : j < 2 ^ 32) (hn : n < 2 ^ 32) (c : Prop) [Decidable c] (x y : α) :
    Scalar.select (IntOp.andi (IntOp.cmpi .eq (BitVec.ofNat 32 j) (BitVec.ofNat 32 n)) (if c then 1#1 else 0#1)) x y = if c ∧ j = n then x else y := by
  rw [cmpi_eq_ofNat j n hj hn]
  by_cases h : j = n <;> by_cases hc : c <;> simp [h, hc, Scalar.select, IntOp.andi]

include hp R hxe H in
/-- What the trip hands on is the recurrence's next state. -/
theorem rel_next (hk : k.val < 32) (hw : w = tok b ⟨k.val, hk⟩) : Rel (kNext I xe k a) b (step P w s) where
  stk j := by
    have h212 := l212 H hp R hxe hk hw
    have h0 := pv_le P w s 0
    show k0_pay13 a.1 (k46 a) (k143 I xe a) (k208 I xe a) (k210 I xe k a) (k212 I xe k a) (k0_pay43 (k46 a)) (ix2 b j) = _
    unfold k0_pay13 k0_pay11 k0_pay12 k0_pay43
    pointwise
    rw [h212, l46 hp R, l143 H hp R hxe, l208 H hp R hxe, l210 H hp R hxe hk hw, R.stk, sgt_zero _ ((pm_lt P w s 1).trans (by omega))]
    have hadd : IntOp.addi (BitVec.ofNat 32 (s.p - 1)) (BitVec.setWidth 32 (if 0 < pm P w s 0 then 1#1 else 0#1)) = BitVec.ofNat 32 (s.p - 1 + pv P w s 0) := by
      rw [← sgt_zero _ ((pm_lt P w s 0).trans (by omega))]
      exact push_word _ _ ((pm_lt P w s 0).trans (by omega))
    rw [hadd, select_push _ _ (by omega) (by omega), select_push _ _ (by omega) (by omega)]
    unfold step
    dsimp only
    split_ifs <;> rfl
  ptr := by
    show k0_pay14 (k46 a) (k210 I xe k a) (k212 I xe k a) (ix2 b (0 : Fin 1)) = _
    unfold k0_pay14 k0_pay11 k0_pay12
    pointwise
    rw [l212 H hp R hxe hk hw, l46 hp R, l210 H hp R hxe hk hw, ← sgt_zero _ ((pm_lt P w s 0).trans (by omega)),
      push_word _ _ ((pm_lt P w s 0).trans (by omega)), push_word _ _ ((pm_lt P w s 1).trans (by omega))]
    rfl
  ht n := l70 H hp R hxe n
  hs n := l73 H hp R hxe n

/-- The loop's start is the recurrence's. -/
theorem rel_init : Rel ((k0_pay8, k0_pay9, k0_pay10 (F := Ideal), k0_pay10 (F := Ideal)) : Car) b Row.init where
  stk j := by
    show k0_pay8 (ix2 b j) = _
    unfold k0_pay8
    pointwise
    rfl
  ptr := by
    show k0_pay9 (ix2 b (0 : Fin 1)) = _
    unfold k0_pay9
    pointwise
    rfl
  ht n := by
    show (k0_pay10 (F := Ideal) (ix2 b n) : EReal) = _
    unfold k0_pay10
    pointwise
    rfl
  hs n := by
    show (k0_pay10 (F := Ideal) (ix2 b n) : EReal) = _
    unfold k0_pay10
    pointwise
    rfl

end Cert.KernelIdeal.Hand

end
-- ==== Proof.KLoop.lean ====
/-
  The kernel's loop as a whole: by induction over its trips, what it carries is the recurrence's state before each step, and what it has
  stored are the recurrence's results of the steps before.
-/
module

public import proofs.«01_k».proof.Proof.KStep
public import Idealize.ShloMosaic.Lib.Pipeline.CanonAppend

@[expose] public section

set_option maxRecDepth 16384

noncomputable section

open Idealize.ShloMosaic Idealize.ShloMosaic.TcCoe Idealize.ShloMosaic.Pipeline Idealize.SL.Sem

namespace Cert.KernelIdeal.Hand

open Cert.KernelIdeal Cert.KernelIdeal.Gen Cert.Rnn

/-- A batch row's tokens, as a sequence. -/
def tokSeq (tok : Fin 64 → Fin 32 → BitVec 32) (b : Fin 64) (k : ℕ) : BitVec 32 := if h : k < 32 then tok b ⟨k, h⟩ else 0#32

/-- Below 32 the sequence gives the batch row's token. -/
theorem tokSeq_lt (tok : Fin 64 → Fin 32 → BitVec 32) (b : Fin 64) (k : Fin 32) : tokSeq tok b k.val = tok b k := dif_pos k.isLt

variable (P : Par) (tok : Fin 64 → Fin 32 → BitVec 32)

/-- A batch row's state before a step. -/
abbrev rowAt (b : Fin 64) (k : ℕ) : Row := runRow P (tokSeq tok b) k

/-- The first result: the new token hidden row of each step, squashed. -/
def hallArr : S32x64x512.Idx → EReal := fun i => Ideal.tanh (ht' P (tok (i 1) (i 0)) (rowAt P tok (i 1) (i 0).val) (i 2))

/-- The second result: the push masks. -/
def pushArr : S64x32x2.Idx → BitVec 32 := fun i => BitVec.ofNat 32 (pm P (tok (i 0) (i 1)) (rowAt P tok (i 0) (i 1).val) (i 2))

/-- The third result: the codes. -/
def codeArr : S32x64x512.Idx → EReal := fun i => code P (tok (i 1) (i 0)) (rowAt P tok (i 1) (i 0).val) (i 2)

/-- The loop counter's word at trip `k` stands for `k`. -/
theorem iv_toNat (k : Fin k0_t1_loop.trips) : (Scalar.indexCast (Scf.iv 0#32 1#32 k.val)).toNat = k.val := by
  have h : k.val < 32 := Nat.lt_of_lt_of_le k.isLt k0_t1_abs.2.1
  simp [Scf.iv, Scalar.indexCast]
  omega

variable (c : Dev nD) (arg0 : Memref sig .tc .vmem S32x64x256 .f32) (harg0 : arg0.IsWhole) (arg1 : Memref sig .tc .vmem S64x32 .i32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1024x512 .f32) (harg6 : arg6.IsWhole) (arg7 : Memref sig .tc .vmem S1024x256 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S32x64x512 .f32) (harg10 : arg10.IsWhole) (arg11 : Memref sig .tc .vmem S64x32x2 .i32) (harg11 : arg11.IsWhole) (arg12 : Memref sig .tc .vmem S32x64x512 .f32) (harg12 : arg12.IsWhole)
  (X : BufTy.Contents (Elt Ideal) arg0.view.ty) (I : KIn)

/-- The loop's state before a trip. -/
abbrev loopSt (k : ℕ) := st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 io66 io1024 io32 I.xm I.Wt I.Ut I.Ws I.Us I.Wnt I.cb I.cbT I.cbsq X (k0_pay8, k0_pay9, k0_pay10 (F := Ideal), k0_pay10 (F := Ideal)) k

/-- The state before a trip, and the pieces stored till then. -/
structure LoopOk (S : Car × List (View.Piece (Elt Ideal) S32x64x512 .f32) × List (View.Piece (Elt Ideal) S64x32x2 .i32) × List (View.Piece (Elt Ideal) S32x64x512 .f32)) (k : ℕ) : Prop where
  car : ∀ b, Rel S.1 b (rowAt P tok b k)
  hall : ∀ pc ∈ S.2.1, ∀ x : pc.1.shape.Idx, pc.2 x = hallArr P tok (pc.1.emb x)
  push : ∀ pc ∈ S.2.2.1, ∀ x : pc.1.shape.Idx, pc.2 x = pushArr P tok (pc.1.emb x)
  code : ∀ pc ∈ S.2.2.2, ∀ x : pc.1.shape.Idx, pc.2 x = codeArr P tok (pc.1.emb x)

section
variable {P tok} {I : KIn} (H : InOk P tok I) {xe : Vec Ideal S1x64x256 .f32} {k : Fin k0_t1_loop.trips} {a : Car} (hk : k.val < 32)
  (R : ∀ b, Rel a b (rowAt P tok b k.val))
  (hxe : ∀ (b : Fin 64) (d : Fin 256), (xe (ix3 (0 : Fin 1) b d) : EReal) = takeEmb P.emb (tok b ⟨k.val, hk⟩) d)

/-- In the first 32 states the pointer is at most 65. -/
theorem row_p_le (b : Fin 64) (j : ℕ) (hj : j < 32) : (rowAt P tok b j).p ≤ 65 := (runRow_p_le P _ j).trans (by omega)

include H R hxe

/-- The block a trip stores into the first result is the recurrence's. -/
theorem piece_hall (x : S1x64x512.Idx) : k0_pay15 (k74 I xe a) x
    = hallArr P tok ((Rect.unit (s := S32x64x512) (k0_off2 k) S1x64x512.size (k0_off2_inb k)).emb x) := by
  obtain ⟨b, n, rfl⟩ : ∃ (b : Fin 64) (n : Fin 512), x = ix3 (0 : Fin 1) b n := ⟨x 1, x 2, by
    idx_vars x
    obtain rfl : x0 = 0 := Subsingleton.elim _ _
    rfl⟩
  have e : (Rect.unit (s := S32x64x512) (k0_off2 k) S1x64x512.size (k0_off2_inb k)).emb (ix3 (0 : Fin 1) b n) = ix3 (⟨k.val, hk⟩ : Fin 32) b n := by
    funext j
    refine Fin.ext ((Rect.idx_unit_val _ _ _ _ _).trans ?_)
    fin_cases j
    · show (Scalar.indexCast (Scf.iv 0#32 1#32 k.val)).toNat + 0 = k.val
      rw [iv_toNat]; rfl
    · show 0 + b.val = b.val
      omega
    · show 0 + n.val = n.val
      omega
  have h := l74 H (row_p_le b k.val hk) (R b) (hxe b) n
  rw [e]
  unfold k0_pay15
  pointwise
  exact h

/-- The block a trip stores into the code result is the recurrence's. -/
theorem piece_code (x : S1x64x512.Idx) : k0_pay16 (k78 I xe a) x
    = codeArr P tok ((Rect.unit (s := S32x64x512) (k0_off2 k) S1x64x512.size (k0_off2_inb k)).emb x) := by
  obtain ⟨b, n, rfl⟩ : ∃ (b : Fin 64) (n : Fin 512), x = ix3 (0 : Fin 1) b n := ⟨x 1, x 2, by
    idx_vars x
    obtain rfl : x0 = 0 := Subsingleton.elim _ _
    rfl⟩
  have e : (Rect.unit (s := S32x64x512) (k0_off2 k) S1x64x512.size (k0_off2_inb k)).emb (ix3 (0 : Fin 1) b n) = ix3 (⟨k.val, hk⟩ : Fin 32) b n := by
    funext j
    refine Fin.ext ((Rect.idx_unit_val _ _ _ _ _).trans ?_)
    fin_cases j
    · show (Scalar.indexCast (Scf.iv 0#32 1#32 k.val)).toNat + 0 = k.val
      rw [iv_toNat]; rfl
    · show 0 + b.val = b.val
      omega
    · show 0 + n.val = n.val
      omega
  have h := l78 H (row_p_le b k.val hk) (R b) (hxe b) n
  rw [e]
  unfold k0_pay16
  pointwise
  exact h

/-- The block a trip stores into the mask result is the recurrence's. -/
theorem piece_push (x : S64x1x2.Idx) : k0_pay17 (k209 I xe k a) (k210 I xe k a) x
    = pushArr P tok ((Rect.unit (s := S64x32x2) (k0_off3 k) S64x1x2.size (k0_off3_inb k)).emb x) := by
  obtain ⟨b, i, rfl⟩ : ∃ (b : Fin 64) (i : Fin 2), x = ix3 b (0 : Fin 1) i := ⟨x 0, x 2, by
    idx_vars x
    obtain rfl : x1 = 0 := Subsingleton.elim _ _
    rfl⟩
  have e : (Rect.unit (s := S64x32x2) (k0_off3 k) S64x1x2.size (k0_off3_inb k)).emb (ix3 b (0 : Fin 1) i) = ix3 b (⟨k.val, hk⟩ : Fin 32) i := by
    funext j
    refine Fin.ext ((Rect.idx_unit_val _ _ _ _ _).trans ?_)
    fin_cases j
    · show 0 + b.val = b.val
      omega
    · show (Scalar.indexCast (Scf.iv 0#32 1#32 k.val)).toNat + 0 = k.val
      rw [iv_toNat]; rfl
    · show 0 + i.val = i.val
      omega
  have h0 := l209 H (row_p_le b k.val hk) (R b) (hxe b) hk rfl
  have h1 := l210 H (row_p_le b k.val hk) (R b) (hxe b) hk rfl
  rw [e]
  unfold k0_pay17
  fin_cases i
  · pointwise
    exact h0
  · pointwise
    exact h1

end

/-- After any number of trips, the carried values and the blocks stored so far are those of the recurrence. -/
theorem loop_ok (H : InOk P tok I)
    (hx : ∀ (k : Fin k0_t1_loop.trips) (hk : k.val < 32) (b : Fin 64) (d : Fin 256), (rowOf k arg0 X (ix3 (0 : Fin 1) b d) : EReal) = takeEmb P.emb (tok b ⟨k.val, hk⟩) d)
    (k : ℕ) (hk : k ≤ k0_t1_loop.trips) : LoopOk P tok (loopSt c arg0 harg0 arg1 harg1 arg2 harg2 arg3 harg3 arg4 harg4 arg5 harg5 arg6 harg6 arg7 harg7 arg8 harg8 arg9 harg9 arg10 harg10 arg11 harg11 arg12 harg12 X I k) k := by
  induction k with
  | zero =>
    have e : loopSt c arg0 harg0 arg1 harg1 arg2 harg2 arg3 harg3 arg4 harg4 arg5 harg5 arg6 harg6 arg7 harg7 arg8 harg8 arg9 harg9 arg10 harg10 arg11 harg11 arg12 harg12 X I 0 = ((k0_pay8, k0_pay9, k0_pay10 (F := Ideal), k0_pay10 (F := Ideal)), [], [], []) := rfl
    rw [e]
    exact ⟨fun b => rel_init, fun _ h => absurd h List.not_mem_nil, fun _ h => absurd h List.not_mem_nil, fun _ h => absurd h List.not_mem_nil⟩
  | succ k ih =>
    have ih := ih (by omega)
    have hk32 : k < 32 := Nat.lt_of_lt_of_le hk k0_t1_abs.2.1
    have e := st_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 io66 io1024 io32 I.xm I.Wt I.Ut I.Ws I.Us I.Wnt I.cb I.cbT I.cbsq X (k0_pay8, k0_pay9, k0_pay10 (F := Ideal), k0_pay10 (F := Ideal)) ⟨k, hk⟩
    rw [tripR_eq, tripL_eq1, tripL_eq2, tripL_eq3] at e
    have hxk := hx ⟨k, hk⟩ hk32
    show LoopOk P tok (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 io66 io1024 io32 I.xm I.Wt I.Ut I.Ws I.Us I.Wnt I.cb I.cbT I.cbsq X (k0_pay8, k0_pay9, k0_pay10 (F := Ideal), k0_pay10 (F := Ideal)) (k + 1)) (k + 1)
    rw [e]
    refine ⟨fun b => ?_, fun pc h => ?_, fun pc h => ?_, fun pc h => ?_⟩
    · have := rel_next (k := ⟨k, hk⟩) H (row_p_le b k hk32) (ih.car b) (hxk b) hk32 rfl
      have et : tokSeq tok b k = tok b ⟨k, hk32⟩ := dif_pos hk32
      show Rel _ b (step P (tokSeq tok b k) (rowAt P tok b k))
      rw [et]
      exact this
    · rcases List.mem_append.1 h with h | h
      · obtain rfl := List.mem_singleton.1 h
        exact piece_hall (k := ⟨k, hk⟩) H hk32 ih.car hxk
      · exact ih.hall pc h
    · rcases List.mem_append.1 h with h | h
      · obtain rfl := List.mem_singleton.1 h
        exact piece_push (k := ⟨k, hk⟩) H hk32 ih.car hxk
      · exact ih.push pc h
    · rcases List.mem_append.1 h with h | h
      · obtain rfl := List.mem_singleton.1 h
        exact piece_code (k := ⟨k, hk⟩) H hk32 ih.car hxk
      · exact ih.code pc h

variable (x0 : Vec Ideal S32x64x256 .f32) (x1 : Vec Ideal S64x32 .i32) (x2 : Vec Ideal S512x512 .f32) (x3 : Vec Ideal S512x512 .f32) (x4 : Vec Ideal S512x512 .f32) (x5 : Vec Ideal S512x512 .f32) (x6 : Vec Ideal S1024x512 .f32) (x7 : Vec Ideal S1024x256 .f32) (x8 : Vec Ideal S256x1024 .f32) (x9 : Vec Ideal S1x1024 .f32)

/-- The kernel's arrays as the loop has them: each loaded whole. -/
def kin : KIn := ⟨x1, x2, x3, x4, x5, x6, x7, x8, x9⟩

/-- A load of a whole array from its start gives the array. -/
theorem ld_whole2 {S : Shape} {e : EltTy} (x : S.Idx → Elt Ideal e) (off : Fin S.rank → ℕ) (h : ∀ a, off a = 0) (inb) :
    View.ld x (Rect.unit (s := S) off S.size inb) = x := View.ld_unit_zero (funext h) inb x

/-- The run's stored pieces are the loop's. -/
theorem run_eq1 : (kernelRun0_A (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1 = (loopSt c arg0 harg0 arg1 harg1 arg2 harg2 arg3 harg3 arg4 harg4 arg5 harg5 arg6 harg6 arg7 harg7 arg8 harg8 arg9 harg9 arg10 harg10 arg11 harg11 arg12 harg12 (harg0.unread x0) (kin x1 x2 x3 x4 x5 x6 x7 x8 x9) k0_t1_loop.trips).2.1 := by
  unfold kernelRun0_A
  dsimp only
  sl_unfold_words
  simp only [View.readAt_eq_ld, Memref.IsWhole.read_unread]
  rw [ld_whole2 (S := S64x32) x1 ![0, 0] (by decide), ld_whole2 (S := S512x512) x2 ![0, 0] (by decide), ld_whole2 (S := S512x512) x3 ![0, 0] (by decide), ld_whole2 (S := S512x512) x4 ![0, 0] (by decide), ld_whole2 (S := S512x512) x5 ![0, 0] (by decide), ld_whole2 (S := S1024x512) x6 ![0, 0] (by decide), ld_whole2 (S := S1024x256) x7 ![0, 0] (by decide), ld_whole2 (S := S256x1024) x8 ![0, 0] (by decide), ld_whole2 (S := S1x1024) x9 ![0, 0] (by decide)]
  rfl

/-- The body's contents of its second result are what the loop leaves there. -/
theorem run_eq2 : (kernelRun0_A (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).2.1 = (loopSt c arg0 harg0 arg1 harg1 arg2 harg2 arg3 harg3 arg4 harg4 arg5 harg5 arg6 harg6 arg7 harg7 arg8 harg8 arg9 harg9 arg10 harg10 arg11 harg11 arg12 harg12 (harg0.unread x0) (kin x1 x2 x3 x4 x5 x6 x7 x8 x9) k0_t1_loop.trips).2.2.1 := by
  unfold kernelRun0_A
  dsimp only
  sl_unfold_words
  simp only [View.readAt_eq_ld, Memref.IsWhole.read_unread]
  rw [ld_whole2 (S := S64x32) x1 ![0, 0] (by decide), ld_whole2 (S := S512x512) x2 ![0, 0] (by decide), ld_whole2 (S := S512x512) x3 ![0, 0] (by decide), ld_whole2 (S := S512x512) x4 ![0, 0] (by decide), ld_whole2 (S := S512x512) x5 ![0, 0] (by decide), ld_whole2 (S := S1024x512) x6 ![0, 0] (by decide), ld_whole2 (S := S1024x256) x7 ![0, 0] (by decide), ld_whole2 (S := S256x1024) x8 ![0, 0] (by decide), ld_whole2 (S := S1x1024) x9 ![0, 0] (by decide)]
  rfl

/-- The body's contents of its third result are what the loop leaves there. -/
theorem run_eq3 : (kernelRun0_A (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).2.2.1 = (loopSt c arg0 harg0 arg1 harg1 arg2 harg2 arg3 harg3 arg4 harg4 arg5 harg5 arg6 harg6 arg7 harg7 arg8 harg8 arg9 harg9 arg10 harg10 arg11 harg11 arg12 harg12 (harg0.unread x0) (kin x1 x2 x3 x4 x5 x6 x7 x8 x9) k0_t1_loop.trips).2.2.2 := by
  unfold kernelRun0_A
  dsimp only
  sl_unfold_words
  simp only [View.readAt_eq_ld, Memref.IsWhole.read_unread]
  rw [ld_whole2 (S := S64x32) x1 ![0, 0] (by decide), ld_whole2 (S := S512x512) x2 ![0, 0] (by decide), ld_whole2 (S := S512x512) x3 ![0, 0] (by decide), ld_whole2 (S := S512x512) x4 ![0, 0] (by decide), ld_whole2 (S := S512x512) x5 ![0, 0] (by decide), ld_whole2 (S := S1024x512) x6 ![0, 0] (by decide), ld_whole2 (S := S1024x256) x7 ![0, 0] (by decide), ld_whole2 (S := S256x1024) x8 ![0, 0] (by decide), ld_whole2 (S := S1x1024) x9 ![0, 0] (by decide)]
  rfl

/-- The row a trip loads is that trip's row of the embedding input. -/
theorem rowOf_eq (k : Fin k0_t1_loop.trips) (hk : k.val < 32) (b : Fin 64) (d : Fin 256) :
    rowOf k arg0 (harg0.unread x0) (ix3 (0 : Fin 1) b d) = x0 (ix3 (⟨k.val, hk⟩ : Fin 32) b d) := by
  unfold rowOf
  rw [View.readAt_eq_ld, harg0.read_unread]
  refine View.ld_unit_apply_of x0 _ _ _ _ _ fun j => ?_
  fin_cases j
  · show k.val = (Scalar.indexCast (Scf.iv 0#32 1#32 k.val)).toNat + 0
    rw [iv_toNat]; rfl
  · show b.val = 0 + b.val
    omega
  · show d.val = 0 + d.val
    omega

variable (H : InOk P tok (kin x1 x2 x3 x4 x5 x6 x7 x8 x9)) (hx0 : ∀ (k : Fin 32) (b : Fin 64) (d : Fin 256), (x0 (ix3 k b d) : EReal) = takeEmb P.emb (tok b k) d)

include H hx0

/-- After the whole loop, every carried value and stored block is that of the recurrence. -/
theorem all_ok : LoopOk P tok (loopSt c arg0 harg0 arg1 harg1 arg2 harg2 arg3 harg3 arg4 harg4 arg5 harg5 arg6 harg6 arg7 harg7 arg8 harg8 arg9 harg9 arg10 harg10 arg11 harg11 arg12 harg12 (harg0.unread x0) (kin x1 x2 x3 x4 x5 x6 x7 x8 x9) k0_t1_loop.trips) k0_t1_loop.trips :=
  loop_ok P tok c arg0 harg0 arg1 harg1 arg2 harg2 arg3 harg3 arg4 harg4 arg5 harg5 arg6 harg6 arg7 harg7 arg8 harg8 arg9 harg9 arg10 harg10 arg11 harg11 arg12 harg12 _ _ H (fun k hk b d => (rowOf_eq arg0 harg0 x0 k hk b d).trans (hx0 _ b d)) _ (le_refl _)

/-- What the first call's run leaves in its first result. -/
theorem out10 : out0_A_10 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = hallArr P tok := by
  unfold out0_A_10
  rw [View.read_writes_junk_eq_canon]
  funext y
  have hc := cover0_A_10 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y
  rw [run_eq1] at hc ⊢
  have := View.canon_append_of_pieces (hallArr P tok) [] _ (all_ok P tok c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 H hx0).hall y hc
  rwa [List.append_nil] at this

/-- What the first call's run leaves in its second result. -/
theorem out11 : out0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = pushArr P tok := by
  unfold out0_A_11
  rw [View.read_writes_junk_eq_canon]
  funext y
  have hc := cover0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y
  rw [run_eq2] at hc ⊢
  have := View.canon_append_of_pieces (pushArr P tok) [] _ (all_ok P tok c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 H hx0).push y hc
  rwa [List.append_nil] at this

/-- What the first call's run leaves in its third result. -/
theorem out12 : out0_A_12 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = codeArr P tok := by
  unfold out0_A_12
  rw [View.read_writes_junk_eq_canon]
  funext y
  have hc := cover0_A_12 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y
  rw [run_eq3] at hc ⊢
  have := View.canon_append_of_pieces (codeArr P tok) [] _ (all_ok P tok c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 H hx0).code y hc
  rwa [List.append_nil] at this

end Cert.KernelIdeal.Hand

end
-- ==== Proof.KRegion.lean ====
/-
  The kernel's first call has no grid, and each of its windows is a whole array: so the arrays it leaves are what its one run stores.
-/
module

public import proofs.«01_k».proof.Proof.KLoop
public import Idealize.ShloMosaic.Lib.Pipeline.ValueKit

@[expose] public section

set_option maxRecDepth 16384

noncomputable section

open Idealize.ShloMosaic Idealize.ShloMosaic.TcCoe Idealize.ShloMosaic.Pipeline

namespace Cert.KernelIdeal.Hand

open Cert.KernelIdeal Cert.KernelIdeal.Gen Cert.Rnn

variable (V : (c : Dev nD) → (b : Ref sig .tc) → Buf (Elt Ideal) ((c : Thread nD τ).loc b)) (c : Dev nD)

/-! An index of a window's block is the same index of its array. -/

/-- Window 0's block has the indices of its array. -/
theorem emb0_0 (t : Fin cfg0.N) (j : (Pipeline.arrRef spec0 0).ty.shape.Idx) : ((cfg0.win 0).blk t).view.emb j = j := by
  funext a; apply Fin.ext; fin_cases a <;> simp [cfg0, win0_0] <;> rfl
/-- Window 1's block has the indices of its array. -/
theorem emb0_1 (t : Fin cfg0.N) (j : (Pipeline.arrRef spec0 1).ty.shape.Idx) : ((cfg0.win 1).blk t).view.emb j = j := by
  funext a; apply Fin.ext; fin_cases a <;> simp [cfg0, win0_1] <;> rfl
/-- Window 2's block has the indices of its array. -/
theorem emb0_2 (t : Fin cfg0.N) (j : (Pipeline.arrRef spec0 2).ty.shape.Idx) : ((cfg0.win 2).blk t).view.emb j = j := by
  funext a; apply Fin.ext; fin_cases a <;> simp [cfg0, win0_2] <;> rfl
/-- Window 3's block has the indices of its array. -/
theorem emb0_3 (t : Fin cfg0.N) (j : (Pipeline.arrRef spec0 3).ty.shape.Idx) : ((cfg0.win 3).blk t).view.emb j = j := by
  funext a; apply Fin.ext; fin_cases a <;> simp [cfg0, win0_3] <;> rfl
/-- Window 4's block has the indices of its array. -/
theorem emb0_4 (t : Fin cfg0.N) (j : (Pipeline.arrRef spec0 4).ty.shape.Idx) : ((cfg0.win 4).blk t).view.emb j = j := by
  funext a; apply Fin.ext; fin_cases a <;> simp [cfg0, win0_4] <;> rfl
/-- Window 5's block has the indices of its array. -/
theorem emb0_5 (t : Fin cfg0.N) (j : (Pipeline.arrRef spec0 5).ty.shape.Idx) : ((cfg0.win 5).blk t).view.emb j = j := by
  funext a; apply Fin.ext; fin_cases a <;> simp [cfg0, win0_5] <;> rfl
/-- Window 6's block has the indices of its array. -/
theorem emb0_6 (t : Fin cfg0.N) (j : (Pipeline.arrRef spec0 6).ty.shape.Idx) : ((cfg0.win 6).blk t).view.emb j = j := by
  funext a; apply Fin.ext; fin_cases a <;> simp [cfg0, win0_6] <;> rfl
/-- Window 7's block has the indices of its array. -/
theorem emb0_7 (t : Fin cfg0.N) (j : (Pipeline.arrRef spec0 7).ty.shape.Idx) : ((cfg0.win 7).blk t).view.emb j = j := by
  funext a; apply Fin.ext; fin_cases a <;> simp [cfg0, win0_7] <;> rfl
/-- Window 8's block has the indices of its array. -/
theorem emb0_8 (t : Fin cfg0.N) (j : (Pipeline.arrRef spec0 8).ty.shape.Idx) : ((cfg0.win 8).blk t).view.emb j = j := by
  funext a; apply Fin.ext; fin_cases a <;> simp [cfg0, win0_8] <;> rfl
/-- Window 9's block has the indices of its array. -/
theorem emb0_9 (t : Fin cfg0.N) (j : (Pipeline.arrRef spec0 9).ty.shape.Idx) : ((cfg0.win 9).blk t).view.emb j = j := by
  funext a; apply Fin.ext; fin_cases a <;> simp [cfg0, win0_9] <;> rfl
/-- Window 10's block has the indices of its array. -/
theorem emb0_10 (t : Fin cfg0.N) (j : (Pipeline.arrRef spec0 10).ty.shape.Idx) : ((cfg0.win 10).blk t).view.emb j = j := by
  funext a; apply Fin.ext; fin_cases a <;> simp [cfg0, win0_10] <;> rfl
/-- Window 11's block has the indices of its array. -/
theorem emb0_11 (t : Fin cfg0.N) (j : (Pipeline.arrRef spec0 11).ty.shape.Idx) : ((cfg0.win 11).blk t).view.emb j = j := by
  funext a; apply Fin.ext; fin_cases a <;> simp [cfg0, win0_11] <;> rfl
/-- Window 12's block has the indices of its array. -/
theorem emb0_12 (t : Fin cfg0.N) (j : (Pipeline.arrRef spec0 12).ty.shape.Idx) : ((cfg0.win 12).blk t).view.emb j = j := by
  funext a; apply Fin.ext; fin_cases a <;> simp [cfg0, win0_12] <;> rfl

/-! So an input window's block is its array as the call finds it. -/

/-- Window 0's block is its whole array. -/
theorem blk0_0 (t : Fin cfg0.N) : iblk0 (F := Ideal) V c 0 t = V c main_v1 := by
  funext j
  exact congrArg (V c main_v1) (emb0_0 t j)

/-- Window 1's block is its whole array. -/
theorem blk0_1 (t : Fin cfg0.N) : iblk0 (F := Ideal) V c 1 t = V c main_v4 := by
  funext j
  exact congrArg (V c main_v4) (emb0_1 t j)

/-- Window 2's block is its whole array. -/
theorem blk0_2 (t : Fin cfg0.N) : iblk0 (F := Ideal) V c 2 t = V c main_arg1 := by
  funext j
  exact congrArg (V c main_arg1) (emb0_2 t j)

/-- Window 3's block is its whole array. -/
theorem blk0_3 (t : Fin cfg0.N) : iblk0 (F := Ideal) V c 3 t = V c main_arg2 := by
  funext j
  exact congrArg (V c main_arg2) (emb0_3 t j)

/-- Window 4's block is its whole array. -/
theorem blk0_4 (t : Fin cfg0.N) : iblk0 (F := Ideal) V c 4 t = V c main_arg3 := by
  funext j
  exact congrArg (V c main_arg3) (emb0_4 t j)

/-- Window 5's block is its whole array. -/
theorem blk0_5 (t : Fin cfg0.N) : iblk0 (F := Ideal) V c 5 t = V c main_arg4 := by
  funext j
  exact congrArg (V c main_arg4) (emb0_5 t j)

/-- Window 6's block is its whole array. -/
theorem blk0_6 (t : Fin cfg0.N) : iblk0 (F := Ideal) V c 6 t = V c main_arg9 := by
  funext j
  exact congrArg (V c main_arg9) (emb0_6 t j)

/-- Window 7's block is its whole array. -/
theorem blk0_7 (t : Fin cfg0.N) : iblk0 (F := Ideal) V c 7 t = V c main_arg10 := by
  funext j
  exact congrArg (V c main_arg10) (emb0_7 t j)

/-- Window 8's block is its whole array. -/
theorem blk0_8 (t : Fin cfg0.N) : iblk0 (F := Ideal) V c 8 t = V c main_v5 := by
  funext j
  exact congrArg (V c main_v5) (emb0_8 t j)

/-- Window 9's block is its whole array. -/
theorem blk0_9 (t : Fin cfg0.N) : iblk0 (F := Ideal) V c 9 t = V c main_v8 := by
  funext j
  exact congrArg (V c main_v8) (emb0_9 t j)

variable (P : Par) (tok : Fin 64 → Fin 32 → BitVec 32)
  (H : InOk P tok (kin (V c main_v4) (V c main_arg1) (V c main_arg2) (V c main_arg3) (V c main_arg4) (V c main_arg9) (V c main_arg10) (V c main_v5) (V c main_v8)))
  (hx0 : ∀ (k : Fin 32) (b : Fin 64) (d : Fin 256), ((V c main_v1 : S32x64x256.Idx → EReal) (ix3 k b d)) = takeEmb P.emb (tok b k) d)

include H hx0

/-- What the first call leaves in its result 0. -/
theorem arr0_10 : (dat0 (F := Ideal) V c).arrAt 10 cfg0.N = hallArr P tok := by
  refine (dat0 (F := Ideal) V c).arrAt_eq_of_covers 10 _ (by decide +kernel) fun t hf y => ?_
  blk_simp
  rw [after0_10]
  unfold outsAt0
  dsimp only
  rw [blk0_0, blk0_1, blk0_2, blk0_3, blk0_4, blk0_5, blk0_6, blk0_7, blk0_8, blk0_9]
  refine (congrFun (out10 P tok c _ _ _ _ _ _ _ _ _ _ _ _ _ _ _ _ _ _ _ _ _ _ _ _ _ _ _ _ _ _ _ _ _ _ _ _ H hx0) _).trans ?_
  exact congrArg (hallArr P tok) (emb0_10 t _).symm

/-- What the first call leaves in its result 1. -/
theorem arr0_11 : (dat0 (F := Ideal) V c).arrAt 11 cfg0.N = pushArr P tok := by
  refine (dat0 (F := Ideal) V c).arrAt_eq_of_covers 11 _ (by decide +kernel) fun t hf y => ?_
  blk_simp
  rw [after0_11]
  unfold outsAt0
  dsimp only
  rw [blk0_0, blk0_1, blk0_2, blk0_3, blk0_4, blk0_5, blk0_6, blk0_7, blk0_8, blk0_9]
  refine (congrFun (out11 P tok c _ _ _ _ _ _ _ _ _ _ _ _ _ _ _ _ _ _ _ _ _ _ _ _ _ _ _ _ _ _ _ _ _ _ _ _ H hx0) _).trans ?_
  exact congrArg (pushArr P tok) (emb0_11 t _).symm

/-- What the first call leaves in its result 2. -/
theorem arr0_12 : (dat0 (F := Ideal) V c).arrAt 12 cfg0.N = codeArr P tok := by
  refine (dat0 (F := Ideal) V c).arrAt_eq_of_covers 12 _ (by decide +kernel) fun t hf y => ?_
  blk_simp
  rw [after0_12]
  unfold outsAt0
  dsimp only
  rw [blk0_0, blk0_1, blk0_2, blk0_3, blk0_4, blk0_5, blk0_6, blk0_7, blk0_8, blk0_9]
  refine (congrFun (out12 P tok c _ _ _ _ _ _ _ _ _ _ _ _ _ _ _ _ _ _ _ _ _ _ _ _ _ _ _ _ _ _ _ _ _ _ _ _ H hx0) _).trans ?_
  exact congrArg (codeArr P tok) (emb0_12 t _).symm

end Cert.KernelIdeal.Hand

end
-- ==== Proof.KLogits.lean ====
/-
  The kernel's second call: its result array, element by element, is the hidden state's row times the predictor's column, plus the bias.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.ShloMosaic.Pipeline

namespace Cert.KernelIdeal.Hand

open Cert.KernelIdeal Cert.KernelIdeal.Gen

/-- The stored block, at one element. -/
theorem pay_logits (x : S1x64x512.Idx → EReal) (w : S512x512.Idx → EReal) (bb : S1x512.Idx → EReal) (b : Fin 64) (v : Fin 512) :
    k1_pay1 (F := Ideal) x w bb (ix4 b (0 : Fin 1) (0 : Fin 1) v) = (∑ n : Fin 512, x (ix3 (0 : Fin 1) b n) * w (ix2 n v)) + bb (ix2 (0 : Fin 1) v) := by
  unfold_payloads
  pointwise

variable (V : (c : Dev nD) → (b : Ref sig .tc) → Buf (Elt Ideal) ((c : Thread nD τ).loc b)) (c : Dev nD)

/-- The windows' block numbers at a grid point. -/
theorem idx1 : ∀ t : Fin cfg1.N, win1_0.index t = ![(grid1.coords t 0).val, 0, 0] ∧ win1_1.index t = ![0, (grid1.coords t 1).val]
    ∧ win1_2.index t = ![0, (grid1.coords t 1).val] ∧ win1_3.index t = ![0, (grid1.coords t 0).val, 0, (grid1.coords t 1).val] :=
  (by decide +kernel : ∀ t : Fin grid1.N, _)

/-- The array the second call leaves. -/
def logitsArr (h : S32x64x512.Idx → EReal) (w : S512x8192.Idx → EReal) (bb : S1x8192.Idx → EReal) : S64x32x1x8192.Idx → EReal := fun i =>
  (∑ n : Fin 512, h (ix3 (i 1) (i 0) n) * w (ix2 n (i 3))) + bb (ix2 (0 : Fin 1) (i 3))

/-- The second call leaves in its result array the logits of the hidden rows it was given. -/
theorem arr1 : (dat1 (F := Ideal) V c).arrAt 3 cfg1.N = logitsArr (V c main_v9_0) (V c main_arg7) (V c main_v10) := by
  refine (dat1 (F := Ideal) V c).arrAt_eq_of_covers 3 _ (by decide +kernel) fun t hf y => ?_
  blk_simp
  rw [after1_3]
  frame_out
  obtain ⟨h0, h1, h2, h3⟩ := idx1 t
  have hy : ∀ y : S64x1x1x512.Idx, k1_pay1 (iblk1 V c 0 t) (iblk1 V c 1 t) (iblk1 V c 2 t) y
      = logitsArr (V c main_v9_0) (V c main_arg7) (V c main_v10) (((View.whole main_v11).slice (win1_3.rect t)).emb y) := by
    intro y
    have hb : ∀ (b : Fin 64) (v : Fin 512), k1_pay1 (iblk1 V c 0 t) (iblk1 V c 1 t) (iblk1 V c 2 t) (ix4 b (0 : Fin 1) (0 : Fin 1) v)
      = logitsArr (V c main_v9_0) (V c main_arg7) (V c main_v10) (((View.whole main_v11).slice (win1_3.rect t)).emb (ix4 b (0 : Fin 1) (0 : Fin 1) v)) := by
     intro b v
     refine (pay_logits _ _ _ b v).trans ?_
     unfold logitsArr
     blk_point [iblk1, h0, h1, h2, h3]
    idx_vars y
    obtain rfl : y1 = 0 := Subsingleton.elim _ _
    obtain rfl : y2 = 0 := Subsingleton.elim _ _
    exact hb y0 y3
  exact hy y

end Cert.KernelIdeal.Hand

end
-- ==== Proof.KHost.lean ====
/-
  The kernel's host operations: what they give the two calls, and what they make of the calls' results.
-/
module

public import proofs.«01_k».proof.Proof.KRegion
public import proofs.«01_k».proof.Proof.KLogits
public import Idealize.ShloMosaic.Lib.StableHlo.ReadAt

@[expose] public section

set_option maxRecDepth 16384

noncomputable section

open Idealize.ShloMosaic Idealize.ShloMosaic.TcCoe Idealize.ShloMosaic.Pipeline Idealize.ShloMosaic.StableHlo

namespace Cert.KernelIdeal.Hand

open Cert.KernelIdeal Cert.KernelIdeal.Gen Cert.Rnn

/-- The gather of one row per token out of the embedding table. -/
theorem gatherTok {α : Type} (x : S8192x256.Idx → α) (i : IVec S32x64x1 32) (k : Fin 32) (b : Fin 64) (d : Fin 256) :
    Host.gather gather_S8192x256_S32x64x1_S32x64x256_2_0_n_n_0_2_1256 x i (ix3 k b d)
      = x (ix2 (clampW 8192 (by decide) (i (ix3 k b (0 : Fin 1)))) d) := by
  unfold Host.gather
  have h0 : gather_S8192x256_S32x64x1_S32x64x256_2_0_n_n_0_2_1256.siIdx (ix3 k b d) ⟨0, by decide⟩ = ix3 k b (0 : Fin 1) := by
    funext a; fin_cases a <;> rfl
  refine congrArg x (funext fun a => Fin.ext ?_)
  rw [← h0]
  match a with
  | ⟨0, _⟩ => rfl
  | ⟨1, _⟩ => exact Nat.zero_add d.val

/-- The squared length of a codebook row. -/
def sqSum (cb : S1024x256.Idx → EReal) (k : Fin 1024) : EReal := ∑ d : Fin 256, cb (ix2 k d) * cb (ix2 k d)

/-! What each stretch of host operations leaves in the arrays read later, from what it finds. -/

section
variable (X : Valuation τ sig (Elt Ideal))

/-- The first stretch turns the token array's axes round. -/
theorem h0_v0 (k : Fin 32) (b : Fin 64) : after hostOps0 X (Proc.devRef .tc main_v0) (ix2 k b) = X (Proc.devRef .tc main_arg11) (ix2 b k) := by
  after_reads_at

/-- The second stretch looks up each token's embedding row. -/
theorem h1_v1 (k : Fin 32) (b : Fin 64) (d : Fin 256) : after hostOps0_1 X (Proc.devRef .tc main_v1) (ix3 k b d)
    = takeEmb (X (Proc.devRef .tc main_arg0)) (X (Proc.devRef .tc main_v0) (ix2 k b)) d := by
  after_reads_at
  rw [gatherTok]
  pointwise
  simp [takeEmb, wrapW]

/-- The third stretch leaves one where a token is not zero, and zero elsewhere. -/
theorem h2_v4 (b : Fin 64) (k : Fin 32) : after hostOps0_2 X (Proc.devRef .tc main_v4) (ix2 b k)
    = BitVec.setWidth 32 (IntOp.cmpi .ne (X (Proc.devRef .tc main_arg11) (ix2 b k)) 0#32) := by
  after_reads_at

/-- The third stretch turns the codebook round. -/
theorem h2_v5 (k : Fin 1024) (d : Fin 256) : after hostOps0_2 X (Proc.devRef .tc main_v5) (ix2 d k) = X (Proc.devRef .tc main_arg10) (ix2 k d) := by
  after_reads_at

/-- The third stretch sums the squares of each codebook row. -/
theorem h2_v8 (k : Fin 1024) : after hostOps0_2 X (Proc.devRef .tc main_v8) (ix2 (0 : Fin 1) k) = sqSum (X (Proc.devRef .tc main_arg10)) k := by
  after_reads_at
  rfl

/-- The stretch before the second call lays the bias out as one row. -/
theorem h3_v10 (v : Fin 8192) : after hostOps1 X (Proc.devRef .tc main_v10) (ix2 (0 : Fin 1) v) = X (Proc.devRef .tc main_arg8) (ix1 v) := by
  after_reads_at

/-- The last stretch drops the logits' axis of length one. -/
theorem h4_v12 (b : Fin 64) (k : Fin 32) (v : Fin 8192) : after hostOps2 X (Proc.devRef .tc main_v12) (ix3 b k v)
    = X (Proc.devRef .tc main_v11) (ix4 b k (0 : Fin 1) v) := by
  after_reads_at

/-- The last stretch splits each step's 512 entries into two codes of 256. -/
theorem h4_v14 (b : Fin 64) (k : Fin 32) (i : Fin 2) (d : Fin 256) : after hostOps2 X (Proc.devRef .tc main_v14) (ix4 b k i d)
    = X (Proc.devRef .tc main_v9_2) (ix3 k b (⟨i.val * 256 + d.val, by omega⟩ : Fin 512)) := by
  after_reads_at

end

end Cert.KernelIdeal.Hand

end
-- ==== Proof.KRun.lean ====
/-
  The kernel's whole run: every execution ends, and its three results are the recurrence's.
-/
module

public import proofs.«01_k».proof.Proof.KHost

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Rnn

/-- The call's arrays are as the recurrence wants them. -/
theorem inOk_of (P : Par) (tok : Fin 64 → Fin 32 → BitVec 32) (x1 : Vec Ideal S64x32 .i32) (x2 : Vec Ideal S512x512 .f32) (x3 : Vec Ideal S512x512 .f32)
    (x4 : Vec Ideal S512x512 .f32) (x5 : Vec Ideal S512x512 .f32) (x6 : Vec Ideal S1024x512 .f32) (x7 : Vec Ideal S1024x256 .f32)
    (x8 : Vec Ideal S256x1024 .f32) (x9 : Vec Ideal S1x1024 .f32)
    (h1 : ∀ b s, x1 (ix2 b s) = BitVec.setWidth 32 (IntOp.cmpi .ne (tok b s) 0#32)) (h2 : x2 = P.Wt) (h3 : x3 = P.Ut) (h4 : x4 = P.Ws) (h5 : x5 = P.Us)
    (h6 : x6 = P.Wnt) (h7 : x7 = P.cb) (h8 : ∀ d k, (x8 (ix2 d k) : EReal) = P.cb (ix2 k d)) (h9 : ∀ k, (x9 (ix2 (0 : Fin 1) k) : EReal) = sqSum P.cb k)
    (hf : ∀ i, P.cb i ≠ ⊤ ∧ P.cb i ≠ ⊥) : InOk P tok (kin x1 x2 x3 x4 x5 x6 x7 x8 x9) :=
  ⟨h1, h2, h3, h4, h5, h6, h7, h8, h9, hf⟩

variable (m : (ℓ : Loc nD τ sig) → Buf (Elt Ideal) ℓ) (ρ : Dev nD → PrngReg)

/-- What the launch's initial elements are. -/
abbrev launchElt : UR sig nD τ := initOf (Pipeline.cells cfgs cellOf_inj) (Pipeline.launchToks cfgs cellOf_inj)

set_option backward.isDefEq.respectTransparency.types false in
/-- Every execution ends, and leaves in every array what the last boundary's contents say. -/
theorem run_fold : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchElt)
    (hu₀ := by
      iintro Hu; imodintro
      isplitl [Hu]
      · iapply (show (ownU launchElt : sProp (MT nD τ sig Unit (Elt Ideal) ℕ (UR sig nD τ) ℕ)) ⊢ BI.own (emb₁ launchElt) from .rfl)
        iexact Hu
      iapply (show (BI.emp : sProp (MT nD τ sig Unit (Elt Ideal) ℕ (UR sig nD τ) ℕ)) ⊢ bigSep Finset.univ (fun _ : Dev nD => BI.emp) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ c b hb => h c _ (mem_uc b hb))

variable (c : Dev nD)

/-- The arrays the recurrence reads, as launched. -/
def kpar : Par where
  emb := m ((c.tc : Thread nD τ).loc main_arg0)
  Wt := m ((c.tc : Thread nD τ).loc main_arg1)
  Ut := m ((c.tc : Thread nD τ).loc main_arg2)
  Ws := m ((c.tc : Thread nD τ).loc main_arg3)
  Us := m ((c.tc : Thread nD τ).loc main_arg4)
  Wnt := m ((c.tc : Thread nD τ).loc main_arg9)
  cb := m ((c.tc : Thread nD τ).loc main_arg10)

/-- The tokens as launched. -/
def ktok (b : Fin 64) (k : Fin 32) : BitVec 32 := m ((c.tc : Thread nD τ).loc main_arg11) (ix2 b k)

/-! What the first call is given. -/

/-- When the first call starts, its first input holds each token's embedding row. -/
theorem w3_v1 (k : Fin 32) (b : Fin 64) (d : Fin 256) :
    W3 m ρ c (Proc.devRef .tc main_v1) (ix3 k b d) = takeEmb (kpar m c).emb (ktok m c b k) d := by
  rw [W3_of m ρ c main_v1 (by decide)]
  refine (h1_v1 (W1 m ρ c) k b d).trans ?_
  rw [W1_args m ρ c main_arg0 (by decide), show W1 m ρ c (Proc.devRef .tc main_v0) (ix2 k b) = ktok m c b k from h0_v0 (W0 m ρ c) k b]
  rfl

/-- When the first call starts, its mask input is one where a token is not zero. -/
theorem w3_v4 (b : Fin 64) (k : Fin 32) :
    W3 m ρ c (Proc.devRef .tc main_v4) (ix2 b k) = BitVec.setWidth 32 (IntOp.cmpi .ne (ktok m c b k) 0#32) := by
  refine (h2_v4 (W2 m ρ c) b k).trans ?_
  rw [W2_args m ρ c main_arg11 (by decide)]
  rfl

/-- When the first call starts, its ninth input is the codebook turned round. -/
theorem w3_v5 (k : Fin 1024) (d : Fin 256) : W3 m ρ c (Proc.devRef .tc main_v5) (ix2 d k) = (kpar m c).cb (ix2 k d) := by
  refine (h2_v5 (W2 m ρ c) k d).trans ?_
  rw [W2_args m ρ c main_arg10 (by decide)]
  rfl

/-- When the first call starts, its tenth input holds the sums of squares of the codebook rows. -/
theorem w3_v8 (k : Fin 1024) : W3 m ρ c (Proc.devRef .tc main_v8) (ix2 (0 : Fin 1) k) = sqSum (kpar m c).cb k := by
  refine (h2_v8 (W2 m ρ c) k).trans ?_
  rw [W2_args m ρ c main_arg10 (by decide)]
  rfl

/-- A logit out of the hidden rows. -/
def logitAt (h : S32x64x512.Idx → EReal) (w : S512x8192.Idx → EReal) (bb : S8192.Idx → EReal) (b : Fin 64) (k : Fin 32) (v : Fin 8192) : EReal :=
  (∑ n : Fin 512, h (ix3 k b n) * w (ix2 n v)) + bb (ix1 v)

variable (hf : ∀ i, (kpar m c).cb i ≠ ⊤ ∧ (kpar m c).cb i ≠ ⊥)

include hf

/-- The first call's inputs are what the loop's proof asks of them. -/
theorem in_ok : InOk (kpar m c) (ktok m c) (kin (V3 m ρ c main_v4) (V3 m ρ c main_arg1) (V3 m ρ c main_arg2) (V3 m ρ c main_arg3) (V3 m ρ c main_arg4)
    (V3 m ρ c main_arg9) (V3 m ρ c main_arg10) (V3 m ρ c main_v5) (V3 m ρ c main_v8)) :=
  inOk_of (kpar m c) (ktok m c) _ _ _ _ _ _ _ _ _ (w3_v4 m ρ c) (W3_args m ρ c main_arg1 (by decide)) (W3_args m ρ c main_arg2 (by decide))
    (W3_args m ρ c main_arg3 (by decide)) (W3_args m ρ c main_arg4 (by decide)) (W3_args m ρ c main_arg9 (by decide))
    (W3_args m ρ c main_arg10 (by decide)) (fun d k => w3_v5 m ρ c k d) (w3_v8 m ρ c) hf

/-! What the first call leaves. -/

/-- The first call leaves tanh of the recurrence's token hidden rows in its first result. -/
theorem w4_0 : W4 m ρ c (Proc.devRef .tc main_v9_0) = hallArr (kpar m c) (ktok m c) :=
  (W4_arr m ρ c 10).trans (arr0_10 (V3 m ρ) c _ _ (in_ok m ρ c hf) (w3_v1 m ρ c))

/-- The first call leaves the recurrence's push masks in its second result. -/
theorem w4_1 : W4 m ρ c (Proc.devRef .tc main_v9_1) = pushArr (kpar m c) (ktok m c) :=
  (W4_arr m ρ c 11).trans (arr0_11 (V3 m ρ) c _ _ (in_ok m ρ c hf) (w3_v1 m ρ c))

/-- The first call leaves the recurrence's codes in its third result. -/
theorem w4_2 : W4 m ρ c (Proc.devRef .tc main_v9_2) = codeArr (kpar m c) (ktok m c) :=
  (W4_arr m ρ c 12).trans (arr0_12 (V3 m ρ) c _ _ (in_ok m ρ c hf) (w3_v1 m ρ c))

/-- The first result: the logits. -/
theorem res0 (b : Fin 64) (k : Fin 32) (v : Fin 8192) : (W7 m ρ c (Proc.devRef .tc main_v12) (ix3 b k v) : EReal)
    = logitAt (hallArr (kpar m c) (ktok m c)) (m ((c.tc : Thread nD τ).loc main_arg7)) (m ((c.tc : Thread nD τ).loc main_arg8)) b k v := by
  refine (h4_v12 (W6 m ρ c) b k v).trans ?_
  rw [show W6 m ρ c (Proc.devRef .tc main_v11) = _ from (W6_arr m ρ c 3).trans (arr1 (V5 m ρ) c)]
  unfold logitsArr logitAt
  rw [show V5 m ρ c main_v9_0 = _ from (W5_of m ρ c main_v9_0 (by decide)).trans (w4_0 m ρ c hf),
    show V5 m ρ c main_arg7 = _ from W5_args m ρ c main_arg7 (by decide)]
  refine congrArg (fun z : EReal => _ + z) ?_
  refine (h3_v10 (W4 m ρ c) v).trans ?_
  rw [W4_args m ρ c main_arg8 (by decide)]

/-- The second result: the push masks. -/
theorem res1 (b : Fin 64) (k : Fin 32) (i : Fin 2) : W7 m ρ c (Proc.devRef .tc main_v9_1) (ix3 b k i)
    = pushArr (kpar m c) (ktok m c) (ix3 b k i) := by
  rw [W7_of m ρ c main_v9_1 (by decide), W6_of m ρ c main_v9_1 (by decide), W5_of m ρ c main_v9_1 (by decide), w4_1 m ρ c hf]

/-- The third result: the codes. -/
theorem res2 (b : Fin 64) (k : Fin 32) (i : Fin 2) (d : Fin 256) : W7 m ρ c (Proc.devRef .tc main_v14) (ix4 b k i d)
    = codeArr (kpar m c) (ktok m c) (ix3 k b (⟨i.val * 256 + d.val, by have := i.isLt; have := d.isLt; omega⟩ : Fin 512)) := by
  refine (h4_v14 (W6 m ρ c) b k i d).trans ?_
  rw [W6_of m ρ c main_v9_2 (by decide), W5_of m ρ c main_v9_2 (by decide), w4_2 m ρ c hf]

end Cert.KernelIdeal.Hand

end
-- ==== Proof.ROps.lean ====
/-
  The reference's gathers and scatters read at an index.
-/
module

public import proofs.«01_k».proof.Proof.Gen.ReferenceIdeal.Run
public import Idealize.ShloMosaic.Lib.Routing.OpsSet
public import Idealize.ShloMosaic.Lib.Routing.OpsPair
public import proofs.«01_k».proof.Proof.Spec

@[expose] public section

set_option maxRecDepth 16384

noncomputable section

open Idealize.ShloMosaic Idealize.ShloMosaic.Routing

namespace Cert.ReferenceIdeal.Hand

open Cert.ReferenceIdeal Cert.ReferenceIdeal.Gen Cert.Rnn

/-- A word that holds a number below `n` clamps to it. -/
theorem clampW_ofNat (n : ℕ) (h : 0 < n) (hn : n < 2 ^ 31) (a : Fin n) : clampW n h (BitVec.ofNat 32 a.val) = a := by
  have := a.isLt
  apply Fin.ext
  show min (BitVec.ofNat 32 a.val).toInt.toNat (n - 1) = a.val
  rw [StableHlo.Predicate.toInt_ofNat_small _ (by omega)]
  omega

/-- The gather of one row per batch entry out of the stack. -/
theorem gatherPair {α : Type} (x : S64x66x256.Idx → α) (i : IVec S64x2 32) (b : Fin 64) (d : Fin 256) :
    Host.gather gather_S64x66x256_S64x2_S64x256_1_01_n_n_01_1_11256 x i (ix2 b d)
      = x (ix3 (clampW 64 (by decide) (i (ix2 b (0 : Fin 2)))) (clampW 66 (by decide) (i (ix2 b (1 : Fin 2)))) d) := by
  unfold Host.gather
  have h0 : gather_S64x66x256_S64x2_S64x256_1_01_n_n_01_1_11256.siIdx (ix2 b d) ⟨0, by decide⟩ = ix2 b (0 : Fin 2) := by
    funext a; fin_cases a <;> rfl
  have h1 : gather_S64x66x256_S64x2_S64x256_1_01_n_n_01_1_11256.siIdx (ix2 b d) ⟨1, by decide⟩ = ix2 b (1 : Fin 2) := by
    funext a; fin_cases a <;> rfl
  refine congrArg x (funext fun a => Fin.ext ?_)
  rw [← h0, ← h1]
  match a with
  | ⟨0, _⟩ => rfl
  | ⟨1, _⟩ => rfl
  | ⟨2, _⟩ => exact Nat.zero_add d.val

/-- The gather of one row per batch entry out of the embedding table. -/
theorem gatherEmb {α : Type} (x : S8192x256.Idx → α) (i : IVec S64x1 32) (b : Fin 64) (d : Fin 256) :
    Host.gather gather_S8192x256_S64x1_S64x256_1_0_n_n_0_1_1256 x i (ix2 b d)
      = x (ix2 (clampW 8192 (by decide) (i (ix2 b (0 : Fin 1)))) d) := by
  unfold Host.gather
  have h0 : gather_S8192x256_S64x1_S64x256_1_0_n_n_0_1_1256.siIdx (ix2 b d) ⟨0, by decide⟩ = ix2 b (0 : Fin 1) := by
    funext a; fin_cases a <;> rfl
  refine congrArg x (funext fun a => Fin.ext ?_)
  rw [← h0]
  match a with
  | ⟨0, _⟩ => rfl
  | ⟨1, _⟩ => exact Nat.zero_add d.val

/-- The gather of one row per code out of the codebook. -/
theorem gatherCb {α : Type} (x : S1024x256.Idx → α) (i : IVec S128x1 32) (b : Fin 128) (d : Fin 256) :
    Host.gather gather_S1024x256_S128x1_S128x256_1_0_n_n_0_1_1256 x i (ix2 b d)
      = x (ix2 (clampW 1024 (by decide) (i (ix2 b (0 : Fin 1)))) d) := by
  unfold Host.gather
  have h0 : gather_S1024x256_S128x1_S128x256_1_0_n_n_0_1_1256.siIdx (ix2 b d) ⟨0, by decide⟩ = ix2 b (0 : Fin 1) := by
    funext a; fin_cases a <;> rfl
  refine congrArg x (funext fun a => Fin.ext ?_)
  rw [← h0]
  match a with
  | ⟨0, _⟩ => rfl
  | ⟨1, _⟩ => exact Nat.zero_add d.val

/-- Where an update of the stack's scatter lands. -/
theorem landsPair (i : IVec S64x2 32) (b : Fin 64) (d : Fin 256) (b' : Fin 64) (p : Fin 66) (d' : Fin 256) :
    scatter_S64x66x256_S64x2_S64x256_1_01_01_1.resultIdx? (ix2 b d) i = some (ix3 b' p d')
      ↔ (i (ix2 b (0 : Fin 2))).toInt = b'.val ∧ (i (ix2 b (1 : Fin 2))).toInt = p.val ∧ d = d' := by
  have h0 : scatter_S64x66x256_S64x2_S64x256_1_01_01_1.siIdx (ix2 b d) ⟨0, by decide⟩ = ix2 b (0 : Fin 2) := by
    funext a; fin_cases a <;> rfl
  have h1 : scatter_S64x66x256_S64x2_S64x256_1_01_01_1.siIdx (ix2 b d) ⟨1, by decide⟩ = ix2 b (1 : Fin 2) := by
    funext a; fin_cases a <;> rfl
  have s0 : scatter_S64x66x256_S64x2_S64x256_1_01_01_1.start (ix2 b d) i (0 : Fin 3) = (i (ix2 b (0 : Fin 2))).toInt := by
    rw [← h0]; rfl
  have s1 : scatter_S64x66x256_S64x2_S64x256_1_01_01_1.start (ix2 b d) i (1 : Fin 3) = (i (ix2 b (1 : Fin 2))).toInt := by
    rw [← h1]; rfl
  have s2 : scatter_S64x66x256_S64x2_S64x256_1_01_01_1.start (ix2 b d) i (2 : Fin 3) = 0 := rfl
  have w0 : scatter_S64x66x256_S64x2_S64x256_1_01_01_1.window (ix2 b d) (0 : Fin 3) = 0 := rfl
  have w1 : scatter_S64x66x256_S64x2_S64x256_1_01_01_1.window (ix2 b d) (1 : Fin 3) = 0 := rfl
  have w2 : scatter_S64x66x256_S64x2_S64x256_1_01_01_1.window (ix2 b d) (2 : Fin 3) = d.val := rfl
  rw [resultIdx?_eq_some]
  constructor
  · intro h
    have e0 := h (0 : Fin 3)
    have e1 := h (1 : Fin 3)
    have e2 := h (2 : Fin 3)
    rw [s0, w0] at e0
    rw [s1, w1] at e1
    rw [s2, w2] at e2
    refine ⟨by simpa using e0, by simpa using e1, Fin.ext ?_⟩
    have e2' : (0 : ℤ) + (d.val : ℤ) = (d'.val : ℤ) := e2
    omega
  · rintro ⟨e0, e1, rfl⟩ a
    match a with
    | ⟨0, _⟩ => exact (congrArg₂ (fun x (y : ℕ) => x + (y : ℤ)) s0 w0).trans (by rw [e0]; simp [ix3])
    | ⟨1, _⟩ => exact (congrArg₂ (fun x (y : ℕ) => x + (y : ℤ)) s1 w1).trans (by rw [e1]; simp [ix3])
    | ⟨2, _⟩ => exact (congrArg₂ (fun x (y : ℕ) => x + (y : ℤ)) s2 w2).trans (by simp [ix3])

/-- The scatter of one row per batch entry into the stack, each entry's row into its own part: the row at the entry's position is replaced, nothing else. -/
theorem scatterPair {α : Type} (x : S64x66x256.Idx → α) (i : IVec S64x2 32) (u : S64x256.Idx → α) (p : Fin 64 → Fin 66)
    (hi0 : ∀ b : Fin 64, i (ix2 b (0 : Fin 2)) = BitVec.ofNat 32 b.val) (hi1 : ∀ b : Fin 64, i (ix2 b (1 : Fin 2)) = BitVec.ofNat 32 (p b).val)
    (b : Fin 64) (j : Fin 66) (d : Fin 256) :
    Host.scatter scatter_S64x66x256_S64x2_S64x256_1_01_01_1 (fun _ b => b) x i u (ix3 b j d)
      = if j = p b then u (ix2 b d) else x (ix3 b j d) := by
  have t0 : ∀ b : Fin 64, (i (ix2 b (0 : Fin 2))).toInt = b.val := fun b => by
    rw [hi0, StableHlo.Predicate.toInt_ofNat_small _ (by omega)]
  have t1 : ∀ b : Fin 64, (i (ix2 b (1 : Fin 2))).toInt = (p b).val := fun b => by
    rw [hi1, StableHlo.Predicate.toInt_ofNat_small _ (by omega)]
  by_cases h : j = p b
  · rw [if_pos h]
    refine scatter_set_hit _ x i u _ _ (fun k hk => ?_) (ix2 b d) ((landsPair i b d b j d).2 ⟨t0 b, by rw [t1, h], rfl⟩)
    obtain ⟨b', d', rfl⟩ : ∃ (b' : Fin 64) (d' : Fin 256), k = ix2 b' d' := ⟨k 0, k 1, eq_ix2 k⟩
    obtain ⟨e0, _, rfl⟩ := (landsPair i b' d' b j d).1 hk
    rw [t0] at e0
    have : b' = b := Fin.ext (by omega)
    rw [this]
  · rw [if_neg h]
    refine scatter_set_miss _ x i u _ fun k hk => h ?_
    obtain ⟨b', d', rfl⟩ : ∃ (b' : Fin 64) (d' : Fin 256), k = ix2 b' d' := ⟨k 0, k 1, eq_ix2 k⟩
    obtain ⟨e0, e1, _⟩ := (landsPair i b' d' b j d).1 hk
    rw [t0] at e0
    have e : b' = b := Fin.ext (by omega)
    rw [t1, e] at e1
    exact Fin.ext (by omega)

end Cert.ReferenceIdeal.Hand

end
-- ==== Proof.RArgmin.lean ====
/-
  The reference's argmin, read at a row: the first position of the least value.
-/
module

public import proofs.«01_k».proof.Proof.Gen.ReferenceIdeal.Run
public import proofs.«01_k».proof.Proof.Spec

@[expose] public section

set_option maxRecDepth 16384

noncomputable section

open Idealize.ShloMosaic

namespace Cert.ReferenceIdeal.Hand

open Cert.ReferenceIdeal Cert.ReferenceIdeal.Gen Cert.Rnn

/-- A value and a position, as the reducer holds them. -/
def enc (v : EReal) (k : Fin 1024) : Ideal .f32 × BitVec 32 := (v, BitVec.ofNat 32 k.val)

/-- The reducer keeps the lesser value, of equal ones that of the lesser position. -/
theorem reducer_enc (a : EReal) (i : Fin 1024) (b : EReal) (j : Fin 1024) :
    reducer_argmin_f32_i32 (F := Ideal) (enc a i) (enc b j) = if a < b ∨ (a = b ∧ i < j) then enc a i else enc b j := by
  have hi := i.isLt
  have hj := j.isLt
  have hc : IntOp.cmpi .slt (BitVec.ofNat 32 i.val) (BitVec.ofNat 32 j.val) = if i < j then 1#1 else 0#1 := by
    rw [WordCmp.cmpi_slt_ofNat (by omega) (by omega)]
    by_cases h : i < j
    · rw [if_pos h, decide_eq_true (Fin.lt_def.1 h)]; rfl
    · rw [if_neg h, decide_eq_false (fun h' => h (Fin.lt_def.2 h'))]; rfl
  have ho : ∀ c : Prop, [Decidable c] → (BitVec.ofBool (decide c)) = if c then 1#1 else 0#1 := by
    intro c _; by_cases h : c <;> simp [h]
  have h1 : FloatOps.cmpf (F := Ideal) (φ := .f32) .olt a b = if a < b then 1#1 else 0#1 := by
    simp [Ideal.cmpf_def, Ideal.cmp, ho]
  have h2 : FloatOps.cmpf (F := Ideal) (φ := .f32) .une a a = 0#1 := by simp [Ideal.cmpf_def, Ideal.cmp]
  have h3 : FloatOps.cmpf (F := Ideal) (φ := .f32) .oeq a b = if a = b then 1#1 else 0#1 := by
    simp [Ideal.cmpf_def, Ideal.cmp, ho]
  show (_, _) = _
  simp only [enc, h1, h2, h3, hc]
  rcases lt_trichotomy a b with h | h | h
  · simp [h, ne_of_lt h, Scalar.select, IntOp.ori, IntOp.andi]
  · subst h
    by_cases hij : i < j <;> simp [hij, Scalar.select, IntOp.ori, IntOp.andi]
  · simp [not_lt.2 h.le, (ne_of_lt h).symm, Scalar.select, IntOp.ori, IntOp.andi]

/-- The fold over a list of encoded pairs: one of them or the start, and no pair of the list before it. -/
theorem foldl_reducer (L : List (EReal × Fin 1024)) (a : EReal) (i : Fin 1024) :
    ∃ (b : EReal) (j : Fin 1024), (L.map fun p => enc p.1 p.2).foldl (reducer_argmin_f32_i32 (F := Ideal)) (enc a i) = enc b j
      ∧ ((b, j) = (a, i) ∨ (b, j) ∈ L) ∧ (b < a ∨ (b = a ∧ j ≤ i)) ∧ ∀ p ∈ L, b < p.1 ∨ (b = p.1 ∧ j ≤ p.2) := by
  induction L generalizing a i with
  | nil => exact ⟨a, i, rfl, .inl rfl, .inr ⟨rfl, le_refl _⟩, fun _ h => absurd h (by simp)⟩
  | cons q L ih =>
    obtain ⟨c, l⟩ := q
    simp only [List.map_cons, List.foldl_cons, reducer_enc]
    by_cases hc : a < c ∨ (a = c ∧ i < l)
    · rw [if_pos hc]
      obtain ⟨b, j, he, hm, hl, ha⟩ := ih a i
      refine ⟨b, j, he, hm.imp_right (List.mem_cons_of_mem _), hl, fun p hp => ?_⟩
      rcases List.mem_cons.1 hp with rfl | hp
      · rcases hl with hl | ⟨rfl, hl⟩
        · rcases hc with hc | ⟨rfl, hc⟩
          · exact .inl (hl.trans hc)
          · exact .inl hl
        · exact hc.imp_right fun h => ⟨h.1, hl.trans h.2.le⟩
      · exact ha p hp
    · rw [if_neg hc]
      obtain ⟨b, j, he, hm, hl, ha⟩ := ih c l
      have hca : c < a ∨ (c = a ∧ l ≤ i) := by
        rcases lt_trichotomy a c with h | h | h
        · exact absurd (.inl h) hc
        · exact .inr ⟨h.symm, not_lt.1 fun hh => hc (.inr ⟨h, hh⟩)⟩
        · exact .inl h
      refine ⟨b, j, he, .inr (hm.elim (fun h => h ▸ List.mem_cons_self) (List.mem_cons_of_mem _)), ?_, fun p hp => ?_⟩
      · rcases hl with hl | ⟨rfl, hl⟩
        · rcases hca with h | ⟨rfl, h⟩
          · exact .inl (hl.trans h)
          · exact .inl hl
        · exact hca.imp_right fun h => ⟨h.1, hl.trans h.2⟩
      · rcases List.mem_cons.1 hp with rfl | hp
        · exact hl
        · exact ha p hp

/-- The argmin of a row's values is the first position of the least. -/
theorem argmin_row (x : S128x1024.Idx → EReal) (r : Fin 128) :
    (Host.argReduce reducer_argmin_f32_i32 (φ := .f32) (F := Ideal) x (iotaInDim S128x1024 32 1)
        (constant S_ FTy.f32 2139095040#32) (constantI S_ 32 0#32) reducesTo_S128x1024_S128_d1 h_S_ (ix1 r)).2
      = BitVec.ofNat 32 (firstMin fun k : Fin 1024 => x (ix2 r k)).val := by
  rw [Ideal.argReduce_eq_reduce2, Host.reduce2_eq_foldl_fiber]
  have hdrop : ∀ (r' : Fin 128) (k : Fin 1024), (reducesTo_S128x1024_S128_d1).drop (ix2 r' k) = ix1 r' := by
    intro r' k; funext a; fin_cases a; rfl
  obtain ⟨L, hL, hLx, hLm⟩ : ∃ L : List (EReal × Fin 1024), Host.argReduceFiber x (iotaInDim S128x1024 32 1) reducesTo_S128x1024_S128_d1 (ix1 r)
      = L.map (fun p => enc p.1 p.2) ∧ (∀ p ∈ L, p.1 = x (ix2 r p.2)) ∧ ∀ k, (x (ix2 r k), k) ∈ L := by
    refine ⟨((List.finRange S128x1024.numel).filter fun n => reducesTo_S128x1024_S128_d1.drop (S128x1024.rowMajor.symm n) = ix1 r).map
      fun n => (x (S128x1024.rowMajor.symm n), (S128x1024.rowMajor.symm n) 1), ?_, ?_, ?_⟩
    · rw [List.map_map]; rfl
    · intro p hp
      obtain ⟨n, hn, rfl⟩ := List.mem_map.1 hp
      have h := of_decide_eq_true (List.mem_filter.1 hn).2
      generalize S128x1024.rowMajor.symm n = i at h
      obtain ⟨r', k, rfl⟩ : ∃ (r' : Fin 128) (k : Fin 1024), i = ix2 r' k := ⟨i 0, i 1, eq_ix2 i⟩
      rw [hdrop] at h
      rw [(ix1_inj r' r).1 h]
      rfl
    · intro k
      refine List.mem_map.2 ⟨S128x1024.rowMajor (ix2 r k), List.mem_filter.2 ⟨List.mem_finRange _, decide_eq_true ?_⟩, ?_⟩
      · rw [Equiv.symm_apply_apply]; exact hdrop r k
      · simp only [Equiv.symm_apply_apply]; rfl
  rw [hL]
  have h0 : (constant (F := Ideal) S_ FTy.f32 2139095040#32 (Shape.Idx.first h_S_), constantI S_ 32 0#32 (Shape.Idx.first h_S_)) = enc ⊤ 0 := by
    have htop : Ideal.ofBits .f32 0x7F800000#32 = ⊤ := by simp [Ideal.ofBits, Ideal.ieee]
    exact Prod.ext htop rfl
  rw [h0]
  obtain ⟨b, j, he, hm, _, ha⟩ := foldl_reducer L ⊤ 0
  rw [he]
  show BitVec.ofNat 32 j.val = _
  refine congrArg (fun i : Fin 1024 => BitVec.ofNat 32 i.val) ?_
  have hb : b = x (ix2 r j) := by
    rcases hm with h | h
    · obtain ⟨rfl, rfl⟩ := Prod.mk.inj h
      rcases ha _ (hLm 0) with h | h
      · exact absurd h not_top_lt
      · exact h.1
    · exact hLx _ h
  refine IsFirstMin.eq fun k => ?_
  have := ha _ (hLm k)
  rw [hb] at this
  refine ⟨this.elim le_of_lt fun h => h.1.le, fun hk => this.elim id fun h => absurd hk (not_lt.2 h.2)⟩

end Cert.ReferenceIdeal.Hand

end
-- ==== Proof.RStretch.lean ====
/-
  What the stretches of the reference's loop body leave in their buffers, read at an index.
-/
module

public import proofs.«01_k».proof.Proof.ROps
public import proofs.«01_k».proof.Proof.RArgmin
public import Idealize.ShloMosaic.Lib.StableHlo.ReadAt
public import Idealize.ShloMosaic.Lib.Tactic.WordOmega

@[expose] public section

set_option maxRecDepth 16384

noncomputable section

open Idealize.ShloMosaic Idealize.ShloMosaic.Routing Idealize.ShloMosaic.StableHlo

namespace Cert.ReferenceIdeal.Hand

open Cert.ReferenceIdeal Cert.ReferenceIdeal.Gen Cert.Rnn

variable (X : Valuation τ sig (Elt Ideal))

/-- The wrap leaves a small number's word as it is. -/
theorem wrapW_ofNat (n : BitVec 32) (a : ℕ) (h : a < 2 ^ 31) : wrapW n (BitVec.ofNat 32 a) = BitVec.ofNat 32 a := by
  unfold wrapW; word_omega

section
variable (b : Fin 64) (d : Fin 256)

/-- Stretch 1 of the loop body leaves, as the words telling whether the stack holds anything, one exactly where the pointer is above zero. -/
theorem s1_v53 : after while0Ops0_1 X (Proc.devRef .tc main_while0b_v53) (ix1 b)
    = BitVec.setWidth 32 (IntOp.cmpi .sgt (X (Proc.devRef .tc main_v46_13) (ix1 b)) 0#32) := by
  after_reads_at

/-- Stretch 1 of the loop body leaves, as the pointer after the pop, the pointer less one, and not below zero. -/
theorem s1_v57 : after while0Ops0_1 X (Proc.devRef .tc main_while0b_v57) (ix1 b)
    = IntOp.maxsi (IntOp.subi (X (Proc.devRef .tc main_v46_13) (ix1 b)) 1#32) 0#32 := by
  after_reads_at

/-- Stretch 1 of the loop body leaves, as the row popped, the row of the stack at the pointer after the pop, read with the wrapping and clamping of a gather. -/
theorem s1_v71 : after while0Ops0_1 X (Proc.devRef .tc main_while0b_v71) (ix2 b d)
    = X (Proc.devRef .tc main_v46_12) (ix3 (clampW 64 (by decide) (wrapW 64#32 (X (Proc.devRef .tc main_v46_1) (ix1 b))))
        (clampW 66 (by decide) (wrapW 66#32 (IntOp.maxsi (IntOp.subi (X (Proc.devRef .tc main_v46_13) (ix1 b)) 1#32) 0#32))) d) := by
  after_reads_simp
  rw [gatherPair]
  pointwise
  after_reads_at
  rfl

/-- Stretch 1 of the loop body leaves, as the step mask, one exactly where the token is not zero and the pointer is above zero. -/
theorem s1_v75 : after while0Ops0_1 X (Proc.devRef .tc main_while0b_v75) (ix1 b)
    = IntOp.muli (BitVec.setWidth 32 (IntOp.cmpi .ne (X (Proc.devRef .tc main_while0b_v50) (ix1 b)) 0#32))
        (BitVec.setWidth 32 (IntOp.cmpi .sgt (X (Proc.devRef .tc main_v46_13) (ix1 b)) 0#32)) := by
  after_reads_at

/-- Stretch 2 of the loop body leaves, as the tokens' embedding rows, the embedding table's row for the token. -/
theorem s2_v76 : after while0Ops0_2 X (Proc.devRef .tc main_while0b_v76) (ix2 b d)
    = takeEmb (X (Proc.devRef .tc main_v46_2)) (X (Proc.devRef .tc main_while0b_v50) (ix1 b)) d := by
  after_reads_at
  rw [gatherEmb]
  pointwise
  simp [takeEmb, wrapW]

/-- Stretch 3 of the loop body leaves, as the new token hidden row before tanh, the linear form of embedding, popped row and old token hidden row. -/
theorem s3_v80 (n : Fin 512) : after while0Ops0_3 X (Proc.devRef .tc main_while0b_v80) (ix2 b n)
    = lin (X (Proc.devRef .tc main_v46_3)) (X (Proc.devRef .tc main_v46_4)) (fun k => X (Proc.devRef .tc main_while0b_v76) (ix2 b k))
        (fun k => X (Proc.devRef .tc main_while0b_v71) (ix2 b k)) (fun k => X (Proc.devRef .tc main_v46_14) (ix2 b k)) n := by
  after_reads_at
  rfl

/-- Stretch 3 of the loop body leaves, as the new stack hidden row before tanh, the linear form of embedding, popped row and old stack hidden row. -/
theorem s3_v83 (n : Fin 512) : after while0Ops0_3 X (Proc.devRef .tc main_while0b_v83) (ix2 b n)
    = lin (X (Proc.devRef .tc main_v46_5)) (X (Proc.devRef .tc main_v46_6)) (fun k => X (Proc.devRef .tc main_while0b_v76) (ix2 b k))
        (fun k => X (Proc.devRef .tc main_while0b_v71) (ix2 b k)) (fun k => X (Proc.devRef .tc main_v46_15) (ix2 b k)) n := by
  after_reads_at
  rfl

/-- Stretch 3 of the loop body leaves, as the two codes, tanh of the linear image of tanh of the new stack hidden row. -/
theorem s3_v89 (i : Fin 2) : after while0Ops0_3 X (Proc.devRef .tc main_while0b_v89) (ix3 b i d)
    = Ideal.tanh ((∑ x : Fin 512, Ideal.tanh (lin (X (Proc.devRef .tc main_v46_5)) (X (Proc.devRef .tc main_v46_6)) (fun k => X (Proc.devRef .tc main_while0b_v76) (ix2 b k))
          (fun k => X (Proc.devRef .tc main_while0b_v71) (ix2 b k)) (fun k => X (Proc.devRef .tc main_v46_15) (ix2 b k)) x)
          * X (Proc.devRef .tc main_v46_7) (ix2 ⟨x.val, by omega⟩ ⟨i.val * 256 + d.val, by omega⟩))
      + ∑ x : Fin 512, Ideal.tanh (lin (X (Proc.devRef .tc main_v46_3)) (X (Proc.devRef .tc main_v46_4)) (fun k => X (Proc.devRef .tc main_while0b_v76) (ix2 b k))
          (fun k => X (Proc.devRef .tc main_while0b_v71) (ix2 b k)) (fun k => X (Proc.devRef .tc main_v46_14) (ix2 b k)) x)
          * X (Proc.devRef .tc main_v46_7) (ix2 ⟨512 + x.val, by omega⟩ ⟨i.val * 256 + d.val, by omega⟩)) := by
  after_reads_at
  after_reads_at
  rfl

/-- Stretch 3 of the loop body leaves, as the logits, the linear image of tanh of the new token hidden row, plus the bias. -/
theorem s3_v93 (v : Fin 8192) : after while0Ops0_3 X (Proc.devRef .tc main_while0b_v93) (ix2 b v)
    = (∑ k : Fin 512, Ideal.tanh (lin (X (Proc.devRef .tc main_v46_3)) (X (Proc.devRef .tc main_v46_4)) (fun k => X (Proc.devRef .tc main_while0b_v76) (ix2 b k))
          (fun k => X (Proc.devRef .tc main_while0b_v71) (ix2 b k)) (fun k => X (Proc.devRef .tc main_v46_14) (ix2 b k)) k)
          * X (Proc.devRef .tc main_v46_8) (ix2 k v)) + X (Proc.devRef .tc main_v46_9) (ix1 v) := by
  after_reads_at
  rfl

/-- Stretch 3 of the loop body leaves, as the differences between codes and codebook rows, code less codebook row, entry by entry. -/
theorem s3_v98 (r : Fin 128) (k : Fin 1024) (c : S64x2x256.Idx → EReal) (hc : after while0Ops0_3 X (Proc.devRef .tc main_while0b_v89) = c)
    (cb : S1024x256.Idx → EReal) (hcb : X (Proc.devRef .tc main_v46_10) = cb) : after while0Ops0_3 X (Proc.devRef .tc main_while0b_v98) (ix3 r k d)
    = c (ix3 ⟨r.val / 2, by omega⟩ ⟨r.val % 2, by omega⟩ d) - cb (ix2 k d) := by
  subst hc hcb
  rw [s3_v89]
  after_reads_at
  after_reads_at
  rfl

/-- Stretch 4 of the loop body leaves, as the distances, square roots of sums of squared differences. -/
theorem s4_v99 (r : Fin 128) (k : Fin 1024) (y : S128x1024x256.Idx → EReal) (hy : X (Proc.devRef .tc main_while0b_v98) = y) :
    after while0Ops0_4 X (Proc.devRef .tc main_while0b_v99) (ix2 r k) = Ideal.sqrt (∑ d : Fin 256, y (ix3 r k d) * y (ix3 r k d)) := by
  subst hy
  after_reads_at

/-- Stretch 5 of the loop body leaves, as the nearest codebook positions, the first position of the least distance, as a word. -/
theorem s5_v100 (r : Fin 128) (y : S128x1024.Idx → EReal) (hy : X (Proc.devRef .tc main_while0b_v99) = y) :
    after while0Ops0_5 X (Proc.devRef .tc main_while0b_v100) (ix1 r) = BitVec.ofNat 32 (firstMin fun k : Fin 1024 => y (ix2 r k)).val := by
  subst hy
  rw [← argmin_row]
  after_reads_at

/-- Stretch 6 of the loop body leaves, as the nearest codebook rows, the codebook rows that the positions name. -/
theorem s6_v101 (r : Fin 128) (q : Fin 1024) (h : X (Proc.devRef .tc main_while0b_v100) (ix1 r) = BitVec.ofNat 32 q.val) :
    after while0Ops0_6 X (Proc.devRef .tc main_while0b_v101) (ix2 r d) = X (Proc.devRef .tc main_v46_10) (ix2 q d) := by
  have hq := q.isLt
  after_reads_at
  rw [gatherCb]
  pointwise
  simp only [Finset.univ_unique, Finset.fold_singleton, h]
  rw [show Scalar.select (IntOp.cmpi CmpIPredicate.slt (BitVec.ofNat 32 q.val) 0#32) (IntOp.addi (BitVec.ofNat 32 q.val) 1024#32) (BitVec.ofNat 32 q.val)
    = BitVec.ofNat 32 q.val by word_omega, clampW_ofNat _ _ (by decide)]
  have : (IntOp.andi (IntOp.andi (IntOp.cmpi CmpIPredicate.sge (BitVec.ofNat 32 q.val) 0#32) (IntOp.cmpi CmpIPredicate.sle (BitVec.ofNat 32 q.val) 1023#32)) 1#1)
    = 1#1 := by
    rw [WordCmp.cmpi_sge_ofNat (a := q.val) (b := 0) (by omega) (by omega), WordCmp.cmpi_sle_ofNat (a := q.val) (b := 1023) (by omega) (by omega)]
    rw [decide_eq_true (by omega), decide_eq_true (by omega)]
    rfl
  rw [this]
  rfl

/-- Stretch 7 of the loop body leaves, as the nearest codebook rows in pairs, the rows found, taken two for each batch row. -/
theorem s7_v102 (i : Fin 2) : after while0Ops0_7 X (Proc.devRef .tc main_while0b_v102) (ix3 b i d)
    = X (Proc.devRef .tc main_while0b_v101) (ix2 ⟨b.val * 2 + i.val, by omega⟩ d) := by
  after_reads_at

/-- Stretch 7 of the loop body leaves, as the push masks, position times step mask. -/
theorem s7_v106 (i : Fin 2) : after while0Ops0_7 X (Proc.devRef .tc main_while0b_v106) (ix2 b i)
    = IntOp.muli (X (Proc.devRef .tc main_while0b_v100) (ix1 ⟨b.val * 2 + i.val, by omega⟩)) (X (Proc.devRef .tc main_while0b_v75) (ix1 b)) := by
  after_reads_at

/-- Stretch 7 of the loop body leaves, as the first row to push, the first of the two rows found. -/
theorem s7_v108 : after while0Ops0_7 X (Proc.devRef .tc main_while0b_v108) (ix2 b d)
    = X (Proc.devRef .tc main_while0b_v101) (ix2 ⟨b.val * 2, by omega⟩ d) := by
  after_reads_at

/-- Stretch 7 of the loop body leaves, as the first push mask, the first position times the step mask. -/
theorem s7_v110 : after while0Ops0_7 X (Proc.devRef .tc main_while0b_v110) (ix1 b)
    = IntOp.muli (X (Proc.devRef .tc main_while0b_v100) (ix1 ⟨b.val * 2, by omega⟩)) (X (Proc.devRef .tc main_while0b_v75) (ix1 b)) := by
  after_reads_at

/-- Stretch 7 of the loop body leaves, as the row at the pointer, the row of the stack at the pointer, read with the wrapping and clamping of a gather. -/
theorem s7_v124 : after while0Ops0_7 X (Proc.devRef .tc main_while0b_v124) (ix2 b d)
    = X (Proc.devRef .tc main_v46_12) (ix3 (clampW 64 (by decide) (wrapW 64#32 (X (Proc.devRef .tc main_v46_1) (ix1 b))))
        (clampW 66 (by decide) (wrapW 66#32 (X (Proc.devRef .tc main_while0b_v57) (ix1 b)))) d) := by
  after_reads_simp
  rw [gatherPair]
  pointwise
  after_reads_at
  rfl

/-- Stretch 7 of the loop body leaves, as whether the first push happens, the test of the first push mask against zero. -/
theorem s7_v127 : after while0Ops0_7 X (Proc.devRef .tc main_while0b_v127) (ix2 b (0 : Fin 1))
    = IntOp.cmpi .sgt (IntOp.muli (X (Proc.devRef .tc main_while0b_v100) (ix1 ⟨b.val * 2, by omega⟩)) (X (Proc.devRef .tc main_while0b_v75) (ix1 b))) 0#32 := by
  after_reads_at

/-- Stretch 8 of the loop body leaves, as the row the first push writes, the new row where the push happens and the old row elsewhere. -/
theorem s8_v128 : after while0Ops0_8 X (Proc.devRef .tc main_while0b_v128) (ix2 b d)
    = Scalar.select (X (Proc.devRef .tc main_while0b_v127) (ix2 b (0 : Fin 1))) (X (Proc.devRef .tc main_while0b_v108) (ix2 b d)) (X (Proc.devRef .tc main_while0b_v124) (ix2 b d)) := by
  after_reads_at

/-- Stretch 9 of the loop body leaves, as the stack after the first push, the old stack with the row written at the pointer. -/
theorem s9_v142 (j : Fin 66) (p : Fin 64 → Fin 66) (h0 : ∀ b : Fin 64, X (Proc.devRef .tc main_v46_1) (ix1 b) = BitVec.ofNat 32 b.val)
    (h1 : ∀ b : Fin 64, X (Proc.devRef .tc main_while0b_v57) (ix1 b) = BitVec.ofNat 32 (p b).val) :
    after while0Ops0_9 X (Proc.devRef .tc main_while0b_v142) (ix3 b j d)
      = if j = p b then X (Proc.devRef .tc main_while0b_v128) (ix2 b d) else X (Proc.devRef .tc main_v46_12) (ix3 b j d) := by
  after_reads_simp
  rw [scatterPair (p := p)]
  · intro b
    pointwise
    after_reads_at
    have := wrapW_ofNat 64#32 b.val (by omega)
    rw [← h0] at this
    exact this.trans (h0 b)
  · intro b
    pointwise
    after_reads_at
    have := wrapW_ofNat 66#32 (p b).val (by omega)
    rw [← h1] at this
    exact this.trans (h1 b)

/-- Stretch 9 of the loop body leaves, as the pointer after the first push, the pointer, one higher where the first push mask is above zero. -/
theorem s9_v146 : after while0Ops0_9 X (Proc.devRef .tc main_while0b_v146) (ix1 b)
    = IntOp.addi (X (Proc.devRef .tc main_while0b_v57) (ix1 b)) (BitVec.setWidth 32 (IntOp.cmpi .sgt (X (Proc.devRef .tc main_while0b_v110) (ix1 b)) 0#32)) := by
  after_reads_at

/-- Stretch 9 of the loop body leaves, as the second row to push, the second of the two rows found. -/
theorem s9_v148 : after while0Ops0_9 X (Proc.devRef .tc main_while0b_v148) (ix2 b d) = X (Proc.devRef .tc main_while0b_v102) (ix3 b (1 : Fin 2) d) := by
  after_reads_at

/-- Stretch 9 of the loop body leaves, as the second push mask, the second of the two push masks. -/
theorem s9_v150 : after while0Ops0_9 X (Proc.devRef .tc main_while0b_v150) (ix1 b) = X (Proc.devRef .tc main_while0b_v106) (ix2 b (1 : Fin 2)) := by
  after_reads_at

/-- Stretch 9 of the loop body leaves, as whether the second push happens, the test of the second push mask against zero. -/
theorem s9_v167 : after while0Ops0_9 X (Proc.devRef .tc main_while0b_v167) (ix2 b (0 : Fin 1))
    = IntOp.cmpi .sgt (X (Proc.devRef .tc main_while0b_v106) (ix2 b (1 : Fin 2))) 0#32 := by
  after_reads_at

/-- Stretch 9 of the loop body leaves, as the row at the second push's pointer, the stack's row at the pointer after the first push. -/
theorem s9_v164 (j : Fin 66) (h0 : X (Proc.devRef .tc main_v46_1) (ix1 b) = BitVec.ofNat 32 b.val)
    (h1 : after while0Ops0_9 X (Proc.devRef .tc main_while0b_v146) (ix1 b) = BitVec.ofNat 32 j.val) :
    after while0Ops0_9 X (Proc.devRef .tc main_while0b_v164) (ix2 b d) = after while0Ops0_9 X (Proc.devRef .tc main_while0b_v142) (ix3 b j d) := by
  have hg : after while0Ops0_9 X (Proc.devRef .tc main_while0b_v164)
      = Host.gather gather_S64x66x256_S64x2_S64x256_1_01_n_n_01_1_11256 (after while0Ops0_9 X (Proc.devRef .tc main_while0b_v142) : S64x66x256.Idx → EReal)
          (after while0Ops0_9 X (Proc.devRef .tc main_while0b_v163)) := by
    after_reads_simp
  have i0 : after while0Ops0_9 X (Proc.devRef .tc main_while0b_v163) (ix2 b (0 : Fin 2)) = BitVec.ofNat 32 b.val := by
    have : after while0Ops0_9 X (Proc.devRef .tc main_while0b_v163) (ix2 b (0 : Fin 2)) = wrapW 64#32 (X (Proc.devRef .tc main_v46_1) (ix1 b)) := by
      after_reads_at
      rfl
    rw [this, h0]
    exact wrapW_ofNat 64#32 b.val (by omega)
  have i1 : after while0Ops0_9 X (Proc.devRef .tc main_while0b_v163) (ix2 b (1 : Fin 2)) = BitVec.ofNat 32 j.val := by
    have : after while0Ops0_9 X (Proc.devRef .tc main_while0b_v163) (ix2 b (1 : Fin 2))
        = wrapW 66#32 (after while0Ops0_9 X (Proc.devRef .tc main_while0b_v146) (ix1 b)) := by
      rw [s9_v146]
      after_reads_at
      rfl
    rw [this, h1]
    exact wrapW_ofNat 66#32 j.val (by omega)
  rw [hg, gatherPair, i0, i1, clampW_ofNat _ _ (by decide), clampW_ofNat _ _ (by decide)]

/-- Stretch 10 of the loop body leaves, as the row the second push writes, the new row where the push happens and the old row elsewhere. -/
theorem s10_v168 : after while0Ops0_10 X (Proc.devRef .tc main_while0b_v168) (ix2 b d)
    = Scalar.select (X (Proc.devRef .tc main_while0b_v167) (ix2 b (0 : Fin 1))) (X (Proc.devRef .tc main_while0b_v148) (ix2 b d)) (X (Proc.devRef .tc main_while0b_v164) (ix2 b d)) := by
  after_reads_at

/-- Stretch 11 of the loop body leaves, as the stack after the step, the stack after the first push with the row written at the pointer. -/
theorem s11_v182 (j : Fin 66) (p : Fin 64 → Fin 66) (h0 : ∀ b : Fin 64, X (Proc.devRef .tc main_v46_1) (ix1 b) = BitVec.ofNat 32 b.val)
    (h1 : ∀ b : Fin 64, X (Proc.devRef .tc main_while0b_v146) (ix1 b) = BitVec.ofNat 32 (p b).val) :
    after while0Ops0_11 X (Proc.devRef .tc main_while0b_v182) (ix3 b j d)
      = if j = p b then X (Proc.devRef .tc main_while0b_v168) (ix2 b d) else X (Proc.devRef .tc main_while0b_v142) (ix3 b j d) := by
  after_reads_simp
  rw [scatterPair (p := p)]
  · intro b
    pointwise
    after_reads_at
    have := wrapW_ofNat 64#32 b.val (by omega)
    rw [← h0] at this
    exact this.trans (h0 b)
  · intro b
    pointwise
    after_reads_at
    have := wrapW_ofNat 66#32 (p b).val (by omega)
    rw [← h1] at this
    exact this.trans (h1 b)

/-- Stretch 11 of the loop body leaves, as the pointer after the step, the pointer, one higher where the second push mask is above zero. -/
theorem s11_v186 : after while0Ops0_11 X (Proc.devRef .tc main_while0b_v186) (ix1 b)
    = IntOp.addi (X (Proc.devRef .tc main_while0b_v146) (ix1 b)) (BitVec.setWidth 32 (IntOp.cmpi .sgt (X (Proc.devRef .tc main_while0b_v150) (ix1 b)) 0#32)) := by
  after_reads_at

end

end Cert.ReferenceIdeal.Hand

end
-- ==== Proof.RSlices.lean ====
/-
  The reference's slices at the step's number: the tokens taken, and the three results' rows written.
-/
module

public import proofs.«01_k».proof.Proof.ROps
public import Idealize.ShloMosaic.Lib.StableHlo.ReadAt
public import Idealize.ShloMosaic.Lib.Pipeline.Value
public import Idealize.ShloMosaic.Lib.DynamicIndex

@[expose] public section

set_option maxRecDepth 16384

noncomputable section

open Idealize.ShloMosaic Idealize.ShloMosaic.Routing Idealize.ShloMosaic.StableHlo

namespace Cert.ReferenceIdeal.Hand

open Cert.ReferenceIdeal Cert.ReferenceIdeal.Gen

/-- One row cut out of a table at a number. -/
theorem cutRow {α : Type} (x : S32x64.Idx → α) (st : Fin 2 → Int) (h) (k : Fin 32) (h0 : st 0 = k.val) (h1 : st 1 = 0) (b : Fin 64) :
    Host.dynamicSlice S1x64 x st h (ix2 (0 : Fin 1) b) = x (ix2 k b) := by
  have hoff : S32x64.Slices ![k.val, 0] S1x64 := ⟨rfl, fun a => by have := k.isLt; fin_cases a <;> simp <;> omega⟩
  rw [Host.dynamicSlice_eq_extractStridedSlice S1x64 x st ![k.val, 0] h hoff (fun a => by fin_cases a; exacts [h0, h1])]
  pointwise

/-- One row of the logits written at a number. -/
theorem putRow3 {α : Type} (n : ℕ) (x : (⟨3, ![32, 64, n]⟩ : Shape).Idx → α) (u : (⟨3, ![1, 64, n]⟩ : Shape).Idx → α) (st : Fin 3 → Int) (h) (k : Fin 32) (h0 : st 0 = k.val)
    (h1 : st 1 = 0) (h2 : st 2 = 0) (s : Fin 32) (b : Fin 64) (v : Fin n) :
    Host.dynamicUpdateSlice x u st h (ix3 s b v) = if s = k then u (ix3 (0 : Fin 1) b v) else x (ix3 s b v) := by
  have hoff : (⟨3, ![32, 64, n]⟩ : Shape).Slices ![k.val, 0, 0] (⟨3, ![1, 64, n]⟩ : Shape) := ⟨rfl, fun a => by have := k.isLt; fin_cases a <;> simp <;> omega⟩
  have e := Host.dynamicUpdateSlice_eq_updateSlice x u st h ![k.val, 0, 0] (fun a => by
      have := k.isLt
      fin_cases a
      · show (min (max (st 0) 0) ((32 - 1 : ℕ) : Int)).toNat = k.val
        rw [h0]; omega
      · show (min (max (st 1) 0) ((64 - 64 : ℕ) : Int)).toNat = 0
        rw [h1]; omega
      · show (min (max (st 2) 0) ((n - n : ℕ) : Int)).toNat = 0
        rw [h2]; omega) hoff
  rw [e]
  by_cases hs : s = k
  · subst hs
    pointwise
    simp
    refine congrArg u (funext fun a => Fin.ext ?_)
    fin_cases a
    · exact Nat.sub_self _
    · rfl
    · rfl
  · have : ¬ (k.val ≤ s.val ∧ s.val - k.val < 1) := fun h => hs (Fin.ext (by omega))
    pointwise
    simp [hs]
    omega

/-- One row of the codes written at a number. -/
theorem putRow4 {α : Type} (x : S32x64x2x256.Idx → α) (u : S1x64x2x256.Idx → α) (st : Fin 4 → Int) (h) (k : Fin 32) (h0 : st 0 = k.val)
    (h1 : st 1 = 0) (h2 : st 2 = 0) (h3 : st 3 = 0) (s : Fin 32) (b : Fin 64) (i : Fin 2) (d : Fin 256) :
    Host.dynamicUpdateSlice x u st h (ix4 s b i d) = if s = k then u (ix4 (0 : Fin 1) b i d) else x (ix4 s b i d) := by
  have hoff : S32x64x2x256.Slices ![k.val, 0, 0, 0] S1x64x2x256 := ⟨rfl, fun a => by have := k.isLt; fin_cases a <;> simp <;> omega⟩
  have e := Host.dynamicUpdateSlice_eq_updateSlice x u st h ![k.val, 0, 0, 0] (fun a => by
      have := k.isLt
      fin_cases a
      · show (min (max (st 0) 0) ((32 - 1 : ℕ) : Int)).toNat = k.val
        rw [h0]; omega
      · show (min (max (st 1) 0) ((64 - 64 : ℕ) : Int)).toNat = 0
        rw [h1]; omega
      · show (min (max (st 2) 0) ((2 - 2 : ℕ) : Int)).toNat = 0
        rw [h2]; omega
      · show (min (max (st 3) 0) ((256 - 256 : ℕ) : Int)).toNat = 0
        rw [h3]; omega) hoff
  rw [e]
  by_cases hs : s = k
  · subst hs
    pointwise
    simp
  · have : ¬ (k.val ≤ s.val ∧ s.val - k.val < 1) := fun h => hs (Fin.ext (by omega))
    pointwise
    simp [hs]
    omega

variable (X : Valuation τ sig (Elt Ideal)) (k : Fin 32) (hk : X (Proc.devRef .tc main_v46_11) = fun _ => BitVec.ofNat 32 k.val)

include hk

/-- Stretch 0 of the loop body leaves, as the step's tokens, the row of the token array that the step's number names. -/
theorem s0_v50 (b : Fin 64) : after while0Ops0 X (Proc.devRef .tc main_while0b_v50) (ix1 b) = X (Proc.devRef .tc main_v46_0) (ix2 k b) := by
  have hk' : (BitVec.ofNat 32 k.val).toInt = k.val := StableHlo.Predicate.toInt_ofNat_small _ (by omega)
  have h : after while0Ops0 X (Proc.devRef .tc main_while0b_v50) (ix1 b)
      = after while0Ops0 X (Proc.devRef .tc main_while0b_call1_v0) (ix2 (0 : Fin 1) b) := by
    have h' : after while0Ops0 X (Proc.devRef .tc main_while0b_v50) = shapeCast S64 (after while0Ops0 X (Proc.devRef .tc main_while0b_call1_v0)) shapeCasts_S1x64_S64 := by
      after_reads_simp
      rfl
    rw [h']
    pointwise
  rw [h]
  after_reads_simp
  refine cutRow (X (Proc.devRef .tc main_v46_0)) _ sliceFits_S32x64_S1x64 k ?_ rfl b
  refine Eq.trans (congrArg BitVec.toInt ?_) hk'
  show upto while0Ops0 X 1 (Proc.devRef .tc main_v46_11) _ = _
  after_reads_simp
  exact congrFun hk _

/-- Stretch 12 of the loop body leaves, as the logits kept for every step, what was kept, with the step's row replaced by this step's logits. -/
theorem s12_v187 (s : Fin 32) (b : Fin 64) (v : Fin 8192) : after while0Ops0_12 X (Proc.devRef .tc main_while0b_v187) (ix3 s b v)
    = if s = k then X (Proc.devRef .tc main_while0b_v93) (ix2 b v) else X (Proc.devRef .tc main_v46_16) (ix3 s b v) := by
  have hk' : (BitVec.ofNat 32 k.val).toInt = k.val := StableHlo.Predicate.toInt_ofNat_small _ (by omega)
  have h : after while0Ops0_12 X (Proc.devRef .tc main_while0b_call8_v0) (ix3 (0 : Fin 1) b v) = X (Proc.devRef .tc main_while0b_v93) (ix2 b v) := by
    after_reads_at
  rw [← h]
  after_reads_simp
  refine putRow3 8192 (X (Proc.devRef .tc main_v46_16)) _ _ updateFits_S32x64x8192_S1x64x8192 k ?_ rfl rfl s b v
  refine Eq.trans (congrArg BitVec.toInt ?_) hk'
  show upto while0Ops0_12 X 3 (Proc.devRef .tc main_v46_11) _ = _
  after_reads_simp
  exact congrFun hk _

/-- Stretch 13 of the loop body leaves, as the push masks kept for every step, what was kept, with the step's row replaced by this step's push masks. -/
theorem s13_v188 (s : Fin 32) (b : Fin 64) (i : Fin 2) : after while0Ops0_13 X (Proc.devRef .tc main_while0b_v188) (ix3 s b i)
    = if s = k then X (Proc.devRef .tc main_while0b_v106) (ix2 b i) else X (Proc.devRef .tc main_v46_17) (ix3 s b i) := by
  have hk' : (BitVec.ofNat 32 k.val).toInt = k.val := StableHlo.Predicate.toInt_ofNat_small _ (by omega)
  have h : after while0Ops0_13 X (Proc.devRef .tc main_while0b_call9_v0) (ix3 (0 : Fin 1) b i) = X (Proc.devRef .tc main_while0b_v106) (ix2 b i) := by
    after_reads_at
  rw [← h]
  after_reads_simp
  refine putRow3 2 (X (Proc.devRef .tc main_v46_17)) _ _ updateFits_S32x64x2_S1x64x2 k ?_ rfl rfl s b i
  refine Eq.trans (congrArg BitVec.toInt ?_) hk'
  show upto while0Ops0_13 X 3 (Proc.devRef .tc main_v46_11) _ = _
  after_reads_simp
  exact congrFun hk _

/-- Stretch 14 of the loop body leaves, as the codes kept for every step, what was kept, with the step's row replaced by this step's codes. -/
theorem s14_v189 (s : Fin 32) (b : Fin 64) (i : Fin 2) (d : Fin 256) : after while0Ops0_14 X (Proc.devRef .tc main_while0b_v189) (ix4 s b i d)
    = if s = k then X (Proc.devRef .tc main_while0b_v89) (ix3 b i d) else X (Proc.devRef .tc main_v46_18) (ix4 s b i d) := by
  have hk' : (BitVec.ofNat 32 k.val).toInt = k.val := StableHlo.Predicate.toInt_ofNat_small _ (by omega)
  have h : after while0Ops0_14 X (Proc.devRef .tc main_while0b_call10_v0) (ix4 (0 : Fin 1) b i d) = X (Proc.devRef .tc main_while0b_v89) (ix3 b i d) := by
    after_reads_at
  rw [← h]
  after_reads_simp
  refine putRow4 (X (Proc.devRef .tc main_v46_18)) _ _ updateFits_S32x64x2x256_S1x64x2x256 k ?_ rfl rfl rfl s b i d
  refine Eq.trans (congrArg BitVec.toInt ?_) hk'
  show upto while0Ops0_14 X 4 (Proc.devRef .tc main_v46_11) _ = _
  after_reads_simp
  exact congrFun hk _

end Cert.ReferenceIdeal.Hand

end
-- ==== Proof.RStep.lean ====
/-
  One trip of the reference's loop: the state before it, row by row, goes to the step of that state, and the three results' rows are written.
-/
module

public import proofs.«01_k».proof.Proof.RStretch
public import proofs.«01_k».proof.Proof.RSlices
public import proofs.«01_k».proof.Proof.Words

@[expose] public section

set_option maxRecDepth 16384

noncomputable section

open Idealize.ShloMosaic Idealize.ShloMosaic.StableHlo

namespace Cert.ReferenceIdeal.Hand

open Cert.ReferenceIdeal Cert.ReferenceIdeal.Gen Cert.ReferenceIdeal.Value Cert.Rnn

section
variable (X : Valuation τ sig (Elt Ideal))

/-- The contents after the first 1 of the trip's stretches. -/
def Y1 : Valuation τ sig (Elt Ideal) := after while0Ops0 X

/-- Stretch 0 leaves alone what it does not write. -/
theorem Y1_of (r : Ref sig .tc) (h : r ∉ while0Ops0_W) : Y1 X (Proc.devRef .tc r) = X (Proc.devRef .tc r) :=
  after_of_writes_sub while0Ops0 X while0Ops0_writes h

/-- The contents after the first 2 of the trip's stretches. -/
def Y2 : Valuation τ sig (Elt Ideal) := after while0Ops0_1 (Y1 X)

/-- Stretch 1 leaves alone what it does not write. -/
theorem Y2_of (r : Ref sig .tc) (h : r ∉ while0Ops0_1_W) : Y2 X (Proc.devRef .tc r) = (Y1 X) (Proc.devRef .tc r) :=
  after_of_writes_sub while0Ops0_1 (Y1 X) while0Ops0_1_writes h

/-- The contents after the first 3 of the trip's stretches. -/
def Y3 : Valuation τ sig (Elt Ideal) := after while0Ops0_2 (Y2 X)

/-- Stretch 2 leaves alone what it does not write. -/
theorem Y3_of (r : Ref sig .tc) (h : r ∉ while0Ops0_2_W) : Y3 X (Proc.devRef .tc r) = (Y2 X) (Proc.devRef .tc r) :=
  after_of_writes_sub while0Ops0_2 (Y2 X) while0Ops0_2_writes h

/-- The contents after the first 4 of the trip's stretches. -/
def Y4 : Valuation τ sig (Elt Ideal) := after while0Ops0_3 (Y3 X)

/-- Stretch 3 leaves alone what it does not write. -/
theorem Y4_of (r : Ref sig .tc) (h : r ∉ while0Ops0_3_W) : Y4 X (Proc.devRef .tc r) = (Y3 X) (Proc.devRef .tc r) :=
  after_of_writes_sub while0Ops0_3 (Y3 X) while0Ops0_3_writes h

/-- The contents after the first 5 of the trip's stretches. -/
def Y5 : Valuation τ sig (Elt Ideal) := after while0Ops0_4 (Y4 X)

/-- Stretch 4 leaves alone what it does not write. -/
theorem Y5_of (r : Ref sig .tc) (h : r ∉ while0Ops0_4_W) : Y5 X (Proc.devRef .tc r) = (Y4 X) (Proc.devRef .tc r) :=
  after_of_writes_sub while0Ops0_4 (Y4 X) while0Ops0_4_writes h

/-- The contents after the first 6 of the trip's stretches. -/
def Y6 : Valuation τ sig (Elt Ideal) := after while0Ops0_5 (Y5 X)

/-- Stretch 5 leaves alone what it does not write. -/
theorem Y6_of (r : Ref sig .tc) (h : r ∉ while0Ops0_5_W) : Y6 X (Proc.devRef .tc r) = (Y5 X) (Proc.devRef .tc r) :=
  after_of_writes_sub while0Ops0_5 (Y5 X) while0Ops0_5_writes h

/-- The contents after the first 7 of the trip's stretches. -/
def Y7 : Valuation τ sig (Elt Ideal) := after while0Ops0_6 (Y6 X)

/-- Stretch 6 leaves alone what it does not write. -/
theorem Y7_of (r : Ref sig .tc) (h : r ∉ while0Ops0_6_W) : Y7 X (Proc.devRef .tc r) = (Y6 X) (Proc.devRef .tc r) :=
  after_of_writes_sub while0Ops0_6 (Y6 X) while0Ops0_6_writes h

/-- The contents after the first 8 of the trip's stretches. -/
def Y8 : Valuation τ sig (Elt Ideal) := after while0Ops0_7 (Y7 X)

/-- Stretch 7 leaves alone what it does not write. -/
theorem Y8_of (r : Ref sig .tc) (h : r ∉ while0Ops0_7_W) : Y8 X (Proc.devRef .tc r) = (Y7 X) (Proc.devRef .tc r) :=
  after_of_writes_sub while0Ops0_7 (Y7 X) while0Ops0_7_writes h

/-- The contents after the first 9 of the trip's stretches. -/
def Y9 : Valuation τ sig (Elt Ideal) := after while0Ops0_8 (Y8 X)

/-- Stretch 8 leaves alone what it does not write. -/
theorem Y9_of (r : Ref sig .tc) (h : r ∉ while0Ops0_8_W) : Y9 X (Proc.devRef .tc r) = (Y8 X) (Proc.devRef .tc r) :=
  after_of_writes_sub while0Ops0_8 (Y8 X) while0Ops0_8_writes h

/-- The contents after the first 10 of the trip's stretches. -/
def Y10 : Valuation τ sig (Elt Ideal) := after while0Ops0_9 (Y9 X)

/-- Stretch 9 leaves alone what it does not write. -/
theorem Y10_of (r : Ref sig .tc) (h : r ∉ while0Ops0_9_W) : Y10 X (Proc.devRef .tc r) = (Y9 X) (Proc.devRef .tc r) :=
  after_of_writes_sub while0Ops0_9 (Y9 X) while0Ops0_9_writes h

/-- The contents after the first 11 of the trip's stretches. -/
def Y11 : Valuation τ sig (Elt Ideal) := after while0Ops0_10 (Y10 X)

/-- Stretch 10 leaves alone what it does not write. -/
theorem Y11_of (r : Ref sig .tc) (h : r ∉ while0Ops0_10_W) : Y11 X (Proc.devRef .tc r) = (Y10 X) (Proc.devRef .tc r) :=
  after_of_writes_sub while0Ops0_10 (Y10 X) while0Ops0_10_writes h

/-- The contents after the first 12 of the trip's stretches. -/
def Y12 : Valuation τ sig (Elt Ideal) := after while0Ops0_11 (Y11 X)

/-- Stretch 11 leaves alone what it does not write. -/
theorem Y12_of (r : Ref sig .tc) (h : r ∉ while0Ops0_11_W) : Y12 X (Proc.devRef .tc r) = (Y11 X) (Proc.devRef .tc r) :=
  after_of_writes_sub while0Ops0_11 (Y11 X) while0Ops0_11_writes h

/-- The contents after the first 13 of the trip's stretches. -/
def Y13 : Valuation τ sig (Elt Ideal) := after while0Ops0_12 (Y12 X)

/-- Stretch 12 leaves alone what it does not write. -/
theorem Y13_of (r : Ref sig .tc) (h : r ∉ while0Ops0_12_W) : Y13 X (Proc.devRef .tc r) = (Y12 X) (Proc.devRef .tc r) :=
  after_of_writes_sub while0Ops0_12 (Y12 X) while0Ops0_12_writes h

/-- The contents after the first 14 of the trip's stretches. -/
def Y14 : Valuation τ sig (Elt Ideal) := after while0Ops0_13 (Y13 X)

/-- Stretch 13 leaves alone what it does not write. -/
theorem Y14_of (r : Ref sig .tc) (h : r ∉ while0Ops0_13_W) : Y14 X (Proc.devRef .tc r) = (Y13 X) (Proc.devRef .tc r) :=
  after_of_writes_sub while0Ops0_13 (Y13 X) while0Ops0_13_writes h

/-- The contents after the first 15 of the trip's stretches. -/
def Y15 : Valuation τ sig (Elt Ideal) := after while0Ops0_14 (Y14 X)

/-- Stretch 14 leaves alone what it does not write. -/
theorem Y15_of (r : Ref sig .tc) (h : r ∉ while0Ops0_14_W) : Y15 X (Proc.devRef .tc r) = (Y14 X) (Proc.devRef .tc r) :=
  after_of_writes_sub while0Ops0_14 (Y14 X) while0Ops0_14_writes h

/-- The contents after the first 16 of the trip's stretches. -/
def Y16 : Valuation τ sig (Elt Ideal) := after while0Ops0_15 (Y15 X)

/-- Stretch 15 leaves alone what it does not write. -/
theorem Y16_of (r : Ref sig .tc) (h : r ∉ while0Ops0_15_W) : Y16 X (Proc.devRef .tc r) = (Y15 X) (Proc.devRef .tc r) :=
  after_of_writes_sub while0Ops0_15 (Y15 X) while0Ops0_15_writes h

/-- The contents after the loop body are those after its last stretch. -/
theorem afterL_body : afterL bodyI X = Y16 X := rfl

/-- After 1 stretch the loop's array 1 is as it was when the trip began. -/
theorem y1_a_v46_1 : Y1 X (Proc.devRef .tc main_v46_1) = X (Proc.devRef .tc main_v46_1) :=
  Y1_of X main_v46_1 (by decide +kernel)

/-- After 1 stretch the loop's array 12 is as it was when the trip began. -/
theorem y1_a_v46_12 : Y1 X (Proc.devRef .tc main_v46_12) = X (Proc.devRef .tc main_v46_12) :=
  Y1_of X main_v46_12 (by decide +kernel)

/-- After 1 stretch the loop's array 13 is as it was when the trip began. -/
theorem y1_a_v46_13 : Y1 X (Proc.devRef .tc main_v46_13) = X (Proc.devRef .tc main_v46_13) :=
  Y1_of X main_v46_13 (by decide +kernel)

/-- After 2 stretches the loop's array 2 is as it was when the trip began. -/
theorem y2_a_v46_2 : Y2 X (Proc.devRef .tc main_v46_2) = X (Proc.devRef .tc main_v46_2) :=
  (Y2_of X main_v46_2 (by decide +kernel)).trans (Y1_of X main_v46_2 (by decide +kernel))

/-- After 2 stretches, the array of the step's tokens is what an earlier stretch left. -/
theorem y2_v50 : Y2 X (Proc.devRef .tc main_while0b_v50) = Y1 X (Proc.devRef .tc main_while0b_v50) :=
  Y2_of X main_while0b_v50 (by decide +kernel)

/-- After 3 stretches the loop's array 3 is as it was when the trip began. -/
theorem y3_a_v46_3 : Y3 X (Proc.devRef .tc main_v46_3) = X (Proc.devRef .tc main_v46_3) :=
  ((Y3_of X main_v46_3 (by decide +kernel)).trans (Y2_of X main_v46_3 (by decide +kernel))).trans (Y1_of X main_v46_3 (by decide +kernel))

/-- After 3 stretches the loop's array 4 is as it was when the trip began. -/
theorem y3_a_v46_4 : Y3 X (Proc.devRef .tc main_v46_4) = X (Proc.devRef .tc main_v46_4) :=
  ((Y3_of X main_v46_4 (by decide +kernel)).trans (Y2_of X main_v46_4 (by decide +kernel))).trans (Y1_of X main_v46_4 (by decide +kernel))

/-- After 3 stretches the loop's array 5 is as it was when the trip began. -/
theorem y3_a_v46_5 : Y3 X (Proc.devRef .tc main_v46_5) = X (Proc.devRef .tc main_v46_5) :=
  ((Y3_of X main_v46_5 (by decide +kernel)).trans (Y2_of X main_v46_5 (by decide +kernel))).trans (Y1_of X main_v46_5 (by decide +kernel))

/-- After 3 stretches the loop's array 6 is as it was when the trip began. -/
theorem y3_a_v46_6 : Y3 X (Proc.devRef .tc main_v46_6) = X (Proc.devRef .tc main_v46_6) :=
  ((Y3_of X main_v46_6 (by decide +kernel)).trans (Y2_of X main_v46_6 (by decide +kernel))).trans (Y1_of X main_v46_6 (by decide +kernel))

/-- After 3 stretches the loop's array 7 is as it was when the trip began. -/
theorem y3_a_v46_7 : Y3 X (Proc.devRef .tc main_v46_7) = X (Proc.devRef .tc main_v46_7) :=
  ((Y3_of X main_v46_7 (by decide +kernel)).trans (Y2_of X main_v46_7 (by decide +kernel))).trans (Y1_of X main_v46_7 (by decide +kernel))

/-- After 3 stretches the loop's array 8 is as it was when the trip began. -/
theorem y3_a_v46_8 : Y3 X (Proc.devRef .tc main_v46_8) = X (Proc.devRef .tc main_v46_8) :=
  ((Y3_of X main_v46_8 (by decide +kernel)).trans (Y2_of X main_v46_8 (by decide +kernel))).trans (Y1_of X main_v46_8 (by decide +kernel))

/-- After 3 stretches the loop's array 9 is as it was when the trip began. -/
theorem y3_a_v46_9 : Y3 X (Proc.devRef .tc main_v46_9) = X (Proc.devRef .tc main_v46_9) :=
  ((Y3_of X main_v46_9 (by decide +kernel)).trans (Y2_of X main_v46_9 (by decide +kernel))).trans (Y1_of X main_v46_9 (by decide +kernel))

/-- After 3 stretches the loop's array 10 is as it was when the trip began. -/
theorem y3_a_v46_10 : Y3 X (Proc.devRef .tc main_v46_10) = X (Proc.devRef .tc main_v46_10) :=
  ((Y3_of X main_v46_10 (by decide +kernel)).trans (Y2_of X main_v46_10 (by decide +kernel))).trans (Y1_of X main_v46_10 (by decide +kernel))

/-- After 3 stretches the loop's array 14 is as it was when the trip began. -/
theorem y3_a_v46_14 : Y3 X (Proc.devRef .tc main_v46_14) = X (Proc.devRef .tc main_v46_14) :=
  ((Y3_of X main_v46_14 (by decide +kernel)).trans (Y2_of X main_v46_14 (by decide +kernel))).trans (Y1_of X main_v46_14 (by decide +kernel))

/-- After 3 stretches the loop's array 15 is as it was when the trip began. -/
theorem y3_a_v46_15 : Y3 X (Proc.devRef .tc main_v46_15) = X (Proc.devRef .tc main_v46_15) :=
  ((Y3_of X main_v46_15 (by decide +kernel)).trans (Y2_of X main_v46_15 (by decide +kernel))).trans (Y1_of X main_v46_15 (by decide +kernel))

/-- After 3 stretches, the array of the row popped is what an earlier stretch left. -/
theorem y3_v71 : Y3 X (Proc.devRef .tc main_while0b_v71) = Y2 X (Proc.devRef .tc main_while0b_v71) :=
  Y3_of X main_while0b_v71 (by decide +kernel)

/-- After 6 stretches the loop's array 10 is as it was when the trip began. -/
theorem y6_a_v46_10 : Y6 X (Proc.devRef .tc main_v46_10) = X (Proc.devRef .tc main_v46_10) :=
  (((((Y6_of X main_v46_10 (by decide +kernel)).trans (Y5_of X main_v46_10 (by decide +kernel))).trans (Y4_of X main_v46_10 (by decide +kernel))).trans (Y3_of X main_v46_10 (by decide +kernel))).trans (Y2_of X main_v46_10 (by decide +kernel))).trans (Y1_of X main_v46_10 (by decide +kernel))

/-- After 7 stretches the loop's array 1 is as it was when the trip began. -/
theorem y7_a_v46_1 : Y7 X (Proc.devRef .tc main_v46_1) = X (Proc.devRef .tc main_v46_1) :=
  ((((((Y7_of X main_v46_1 (by decide +kernel)).trans (Y6_of X main_v46_1 (by decide +kernel))).trans (Y5_of X main_v46_1 (by decide +kernel))).trans (Y4_of X main_v46_1 (by decide +kernel))).trans (Y3_of X main_v46_1 (by decide +kernel))).trans (Y2_of X main_v46_1 (by decide +kernel))).trans (Y1_of X main_v46_1 (by decide +kernel))

/-- After 7 stretches the loop's array 12 is as it was when the trip began. -/
theorem y7_a_v46_12 : Y7 X (Proc.devRef .tc main_v46_12) = X (Proc.devRef .tc main_v46_12) :=
  ((((((Y7_of X main_v46_12 (by decide +kernel)).trans (Y6_of X main_v46_12 (by decide +kernel))).trans (Y5_of X main_v46_12 (by decide +kernel))).trans (Y4_of X main_v46_12 (by decide +kernel))).trans (Y3_of X main_v46_12 (by decide +kernel))).trans (Y2_of X main_v46_12 (by decide +kernel))).trans (Y1_of X main_v46_12 (by decide +kernel))

/-- After 7 stretches, the array of the pointer after the pop is what an earlier stretch left. -/
theorem y7_v57 : Y7 X (Proc.devRef .tc main_while0b_v57) = Y2 X (Proc.devRef .tc main_while0b_v57) :=
  ((((Y7_of X main_while0b_v57 (by decide +kernel)).trans (Y6_of X main_while0b_v57 (by decide +kernel))).trans (Y5_of X main_while0b_v57 (by decide +kernel))).trans (Y4_of X main_while0b_v57 (by decide +kernel))).trans (Y3_of X main_while0b_v57 (by decide +kernel))

/-- After 7 stretches, the array of the step mask is what an earlier stretch left. -/
theorem y7_v75 : Y7 X (Proc.devRef .tc main_while0b_v75) = Y2 X (Proc.devRef .tc main_while0b_v75) :=
  ((((Y7_of X main_while0b_v75 (by decide +kernel)).trans (Y6_of X main_while0b_v75 (by decide +kernel))).trans (Y5_of X main_while0b_v75 (by decide +kernel))).trans (Y4_of X main_while0b_v75 (by decide +kernel))).trans (Y3_of X main_while0b_v75 (by decide +kernel))

/-- After 7 stretches, the array of the nearest codebook positions is what an earlier stretch left. -/
theorem y7_v100 : Y7 X (Proc.devRef .tc main_while0b_v100) = Y6 X (Proc.devRef .tc main_while0b_v100) :=
  Y7_of X main_while0b_v100 (by decide +kernel)

/-- After 9 stretches the loop's array 1 is as it was when the trip began. -/
theorem y9_a_v46_1 : Y9 X (Proc.devRef .tc main_v46_1) = X (Proc.devRef .tc main_v46_1) :=
  ((((((((Y9_of X main_v46_1 (by decide +kernel)).trans (Y8_of X main_v46_1 (by decide +kernel))).trans (Y7_of X main_v46_1 (by decide +kernel))).trans (Y6_of X main_v46_1 (by decide +kernel))).trans (Y5_of X main_v46_1 (by decide +kernel))).trans (Y4_of X main_v46_1 (by decide +kernel))).trans (Y3_of X main_v46_1 (by decide +kernel))).trans (Y2_of X main_v46_1 (by decide +kernel))).trans (Y1_of X main_v46_1 (by decide +kernel))

/-- After 9 stretches the loop's array 12 is as it was when the trip began. -/
theorem y9_a_v46_12 : Y9 X (Proc.devRef .tc main_v46_12) = X (Proc.devRef .tc main_v46_12) :=
  ((((((((Y9_of X main_v46_12 (by decide +kernel)).trans (Y8_of X main_v46_12 (by decide +kernel))).trans (Y7_of X main_v46_12 (by decide +kernel))).trans (Y6_of X main_v46_12 (by decide +kernel))).trans (Y5_of X main_v46_12 (by decide +kernel))).trans (Y4_of X main_v46_12 (by decide +kernel))).trans (Y3_of X main_v46_12 (by decide +kernel))).trans (Y2_of X main_v46_12 (by decide +kernel))).trans (Y1_of X main_v46_12 (by decide +kernel))

/-- After 9 stretches, the array of the pointer after the pop is what an earlier stretch left. -/
theorem y9_v57 : Y9 X (Proc.devRef .tc main_while0b_v57) = Y2 X (Proc.devRef .tc main_while0b_v57) :=
  ((((((Y9_of X main_while0b_v57 (by decide +kernel)).trans (Y8_of X main_while0b_v57 (by decide +kernel))).trans (Y7_of X main_while0b_v57 (by decide +kernel))).trans (Y6_of X main_while0b_v57 (by decide +kernel))).trans (Y5_of X main_while0b_v57 (by decide +kernel))).trans (Y4_of X main_while0b_v57 (by decide +kernel))).trans (Y3_of X main_while0b_v57 (by decide +kernel))

/-- After 9 stretches, the array of the first push mask is what an earlier stretch left. -/
theorem y9_v110 : Y9 X (Proc.devRef .tc main_while0b_v110) = Y8 X (Proc.devRef .tc main_while0b_v110) :=
  Y9_of X main_while0b_v110 (by decide +kernel)

/-- After 9 stretches, the array of the nearest codebook rows in pairs is what an earlier stretch left. -/
theorem y9_v102 : Y9 X (Proc.devRef .tc main_while0b_v102) = Y8 X (Proc.devRef .tc main_while0b_v102) :=
  Y9_of X main_while0b_v102 (by decide +kernel)

/-- After 9 stretches, the array of the push masks is what an earlier stretch left. -/
theorem y9_v106 : Y9 X (Proc.devRef .tc main_while0b_v106) = Y8 X (Proc.devRef .tc main_while0b_v106) :=
  Y9_of X main_while0b_v106 (by decide +kernel)

/-- After 11 stretches the loop's array 1 is as it was when the trip began. -/
theorem y11_a_v46_1 : Y11 X (Proc.devRef .tc main_v46_1) = X (Proc.devRef .tc main_v46_1) :=
  ((((((((((Y11_of X main_v46_1 (by decide +kernel)).trans (Y10_of X main_v46_1 (by decide +kernel))).trans (Y9_of X main_v46_1 (by decide +kernel))).trans (Y8_of X main_v46_1 (by decide +kernel))).trans (Y7_of X main_v46_1 (by decide +kernel))).trans (Y6_of X main_v46_1 (by decide +kernel))).trans (Y5_of X main_v46_1 (by decide +kernel))).trans (Y4_of X main_v46_1 (by decide +kernel))).trans (Y3_of X main_v46_1 (by decide +kernel))).trans (Y2_of X main_v46_1 (by decide +kernel))).trans (Y1_of X main_v46_1 (by decide +kernel))

/-- After 11 stretches, the array of the pointer after the first push is what an earlier stretch left. -/
theorem y11_v146 : Y11 X (Proc.devRef .tc main_while0b_v146) = Y10 X (Proc.devRef .tc main_while0b_v146) :=
  Y11_of X main_while0b_v146 (by decide +kernel)

/-- After 11 stretches, the array of the stack after the first push is what an earlier stretch left. -/
theorem y11_v142 : Y11 X (Proc.devRef .tc main_while0b_v142) = Y10 X (Proc.devRef .tc main_while0b_v142) :=
  Y11_of X main_while0b_v142 (by decide +kernel)

/-- After 11 stretches, the array of the second push mask is what an earlier stretch left. -/
theorem y11_v150 : Y11 X (Proc.devRef .tc main_while0b_v150) = Y10 X (Proc.devRef .tc main_while0b_v150) :=
  Y11_of X main_while0b_v150 (by decide +kernel)

/-- After 12 stretches, the array of the logits is what an earlier stretch left. -/
theorem y12_v93 : Y12 X (Proc.devRef .tc main_while0b_v93) = Y4 X (Proc.devRef .tc main_while0b_v93) :=
  (((((((Y12_of X main_while0b_v93 (by decide +kernel)).trans (Y11_of X main_while0b_v93 (by decide +kernel))).trans (Y10_of X main_while0b_v93 (by decide +kernel))).trans (Y9_of X main_while0b_v93 (by decide +kernel))).trans (Y8_of X main_while0b_v93 (by decide +kernel))).trans (Y7_of X main_while0b_v93 (by decide +kernel))).trans (Y6_of X main_while0b_v93 (by decide +kernel))).trans (Y5_of X main_while0b_v93 (by decide +kernel))

/-- After 12 stretches the loop's array 16 is as it was when the trip began. -/
theorem y12_a_v46_16 : Y12 X (Proc.devRef .tc main_v46_16) = X (Proc.devRef .tc main_v46_16) :=
  (((((((((((Y12_of X main_v46_16 (by decide +kernel)).trans (Y11_of X main_v46_16 (by decide +kernel))).trans (Y10_of X main_v46_16 (by decide +kernel))).trans (Y9_of X main_v46_16 (by decide +kernel))).trans (Y8_of X main_v46_16 (by decide +kernel))).trans (Y7_of X main_v46_16 (by decide +kernel))).trans (Y6_of X main_v46_16 (by decide +kernel))).trans (Y5_of X main_v46_16 (by decide +kernel))).trans (Y4_of X main_v46_16 (by decide +kernel))).trans (Y3_of X main_v46_16 (by decide +kernel))).trans (Y2_of X main_v46_16 (by decide +kernel))).trans (Y1_of X main_v46_16 (by decide +kernel))

/-- After 12 stretches the loop's array 11 is as it was when the trip began. -/
theorem y12_a_v46_11 : Y12 X (Proc.devRef .tc main_v46_11) = X (Proc.devRef .tc main_v46_11) :=
  (((((((((((Y12_of X main_v46_11 (by decide +kernel)).trans (Y11_of X main_v46_11 (by decide +kernel))).trans (Y10_of X main_v46_11 (by decide +kernel))).trans (Y9_of X main_v46_11 (by decide +kernel))).trans (Y8_of X main_v46_11 (by decide +kernel))).trans (Y7_of X main_v46_11 (by decide +kernel))).trans (Y6_of X main_v46_11 (by decide +kernel))).trans (Y5_of X main_v46_11 (by decide +kernel))).trans (Y4_of X main_v46_11 (by decide +kernel))).trans (Y3_of X main_v46_11 (by decide +kernel))).trans (Y2_of X main_v46_11 (by decide +kernel))).trans (Y1_of X main_v46_11 (by decide +kernel))

/-- After 13 stretches, the array of the push masks is what an earlier stretch left. -/
theorem y13_v106 : Y13 X (Proc.devRef .tc main_while0b_v106) = Y8 X (Proc.devRef .tc main_while0b_v106) :=
  ((((Y13_of X main_while0b_v106 (by decide +kernel)).trans (Y12_of X main_while0b_v106 (by decide +kernel))).trans (Y11_of X main_while0b_v106 (by decide +kernel))).trans (Y10_of X main_while0b_v106 (by decide +kernel))).trans (Y9_of X main_while0b_v106 (by decide +kernel))

/-- After 13 stretches the loop's array 17 is as it was when the trip began. -/
theorem y13_a_v46_17 : Y13 X (Proc.devRef .tc main_v46_17) = X (Proc.devRef .tc main_v46_17) :=
  ((((((((((((Y13_of X main_v46_17 (by decide +kernel)).trans (Y12_of X main_v46_17 (by decide +kernel))).trans (Y11_of X main_v46_17 (by decide +kernel))).trans (Y10_of X main_v46_17 (by decide +kernel))).trans (Y9_of X main_v46_17 (by decide +kernel))).trans (Y8_of X main_v46_17 (by decide +kernel))).trans (Y7_of X main_v46_17 (by decide +kernel))).trans (Y6_of X main_v46_17 (by decide +kernel))).trans (Y5_of X main_v46_17 (by decide +kernel))).trans (Y4_of X main_v46_17 (by decide +kernel))).trans (Y3_of X main_v46_17 (by decide +kernel))).trans (Y2_of X main_v46_17 (by decide +kernel))).trans (Y1_of X main_v46_17 (by decide +kernel))

/-- After 13 stretches the loop's array 11 is as it was when the trip began. -/
theorem y13_a_v46_11 : Y13 X (Proc.devRef .tc main_v46_11) = X (Proc.devRef .tc main_v46_11) :=
  ((((((((((((Y13_of X main_v46_11 (by decide +kernel)).trans (Y12_of X main_v46_11 (by decide +kernel))).trans (Y11_of X main_v46_11 (by decide +kernel))).trans (Y10_of X main_v46_11 (by decide +kernel))).trans (Y9_of X main_v46_11 (by decide +kernel))).trans (Y8_of X main_v46_11 (by decide +kernel))).trans (Y7_of X main_v46_11 (by decide +kernel))).trans (Y6_of X main_v46_11 (by decide +kernel))).trans (Y5_of X main_v46_11 (by decide +kernel))).trans (Y4_of X main_v46_11 (by decide +kernel))).trans (Y3_of X main_v46_11 (by decide +kernel))).trans (Y2_of X main_v46_11 (by decide +kernel))).trans (Y1_of X main_v46_11 (by decide +kernel))

/-- After 14 stretches, the array of the two codes is what an earlier stretch left. -/
theorem y14_v89 : Y14 X (Proc.devRef .tc main_while0b_v89) = Y4 X (Proc.devRef .tc main_while0b_v89) :=
  (((((((((Y14_of X main_while0b_v89 (by decide +kernel)).trans (Y13_of X main_while0b_v89 (by decide +kernel))).trans (Y12_of X main_while0b_v89 (by decide +kernel))).trans (Y11_of X main_while0b_v89 (by decide +kernel))).trans (Y10_of X main_while0b_v89 (by decide +kernel))).trans (Y9_of X main_while0b_v89 (by decide +kernel))).trans (Y8_of X main_while0b_v89 (by decide +kernel))).trans (Y7_of X main_while0b_v89 (by decide +kernel))).trans (Y6_of X main_while0b_v89 (by decide +kernel))).trans (Y5_of X main_while0b_v89 (by decide +kernel))

/-- After 14 stretches the loop's array 18 is as it was when the trip began. -/
theorem y14_a_v46_18 : Y14 X (Proc.devRef .tc main_v46_18) = X (Proc.devRef .tc main_v46_18) :=
  (((((((((((((Y14_of X main_v46_18 (by decide +kernel)).trans (Y13_of X main_v46_18 (by decide +kernel))).trans (Y12_of X main_v46_18 (by decide +kernel))).trans (Y11_of X main_v46_18 (by decide +kernel))).trans (Y10_of X main_v46_18 (by decide +kernel))).trans (Y9_of X main_v46_18 (by decide +kernel))).trans (Y8_of X main_v46_18 (by decide +kernel))).trans (Y7_of X main_v46_18 (by decide +kernel))).trans (Y6_of X main_v46_18 (by decide +kernel))).trans (Y5_of X main_v46_18 (by decide +kernel))).trans (Y4_of X main_v46_18 (by decide +kernel))).trans (Y3_of X main_v46_18 (by decide +kernel))).trans (Y2_of X main_v46_18 (by decide +kernel))).trans (Y1_of X main_v46_18 (by decide +kernel))

/-- After 14 stretches the loop's array 11 is as it was when the trip began. -/
theorem y14_a_v46_11 : Y14 X (Proc.devRef .tc main_v46_11) = X (Proc.devRef .tc main_v46_11) :=
  (((((((((((((Y14_of X main_v46_11 (by decide +kernel)).trans (Y13_of X main_v46_11 (by decide +kernel))).trans (Y12_of X main_v46_11 (by decide +kernel))).trans (Y11_of X main_v46_11 (by decide +kernel))).trans (Y10_of X main_v46_11 (by decide +kernel))).trans (Y9_of X main_v46_11 (by decide +kernel))).trans (Y8_of X main_v46_11 (by decide +kernel))).trans (Y7_of X main_v46_11 (by decide +kernel))).trans (Y6_of X main_v46_11 (by decide +kernel))).trans (Y5_of X main_v46_11 (by decide +kernel))).trans (Y4_of X main_v46_11 (by decide +kernel))).trans (Y3_of X main_v46_11 (by decide +kernel))).trans (Y2_of X main_v46_11 (by decide +kernel))).trans (Y1_of X main_v46_11 (by decide +kernel))

/-- After 15 stretches, the array of the stack after the step is what an earlier stretch left. -/
theorem y15_v182 : Y15 X (Proc.devRef .tc main_while0b_v182) = Y12 X (Proc.devRef .tc main_while0b_v182) :=
  ((Y15_of X main_while0b_v182 (by decide +kernel)).trans (Y14_of X main_while0b_v182 (by decide +kernel))).trans (Y13_of X main_while0b_v182 (by decide +kernel))

/-- After 15 stretches, the array of the pointer after the step is what an earlier stretch left. -/
theorem y15_v186 : Y15 X (Proc.devRef .tc main_while0b_v186) = Y12 X (Proc.devRef .tc main_while0b_v186) :=
  ((Y15_of X main_while0b_v186 (by decide +kernel)).trans (Y14_of X main_while0b_v186 (by decide +kernel))).trans (Y13_of X main_while0b_v186 (by decide +kernel))

/-- After 15 stretches, the array of the new token hidden row before tanh is what an earlier stretch left. -/
theorem y15_v80 : Y15 X (Proc.devRef .tc main_while0b_v80) = Y4 X (Proc.devRef .tc main_while0b_v80) :=
  ((((((((((Y15_of X main_while0b_v80 (by decide +kernel)).trans (Y14_of X main_while0b_v80 (by decide +kernel))).trans (Y13_of X main_while0b_v80 (by decide +kernel))).trans (Y12_of X main_while0b_v80 (by decide +kernel))).trans (Y11_of X main_while0b_v80 (by decide +kernel))).trans (Y10_of X main_while0b_v80 (by decide +kernel))).trans (Y9_of X main_while0b_v80 (by decide +kernel))).trans (Y8_of X main_while0b_v80 (by decide +kernel))).trans (Y7_of X main_while0b_v80 (by decide +kernel))).trans (Y6_of X main_while0b_v80 (by decide +kernel))).trans (Y5_of X main_while0b_v80 (by decide +kernel))

/-- After 15 stretches, the array of the new stack hidden row before tanh is what an earlier stretch left. -/
theorem y15_v83 : Y15 X (Proc.devRef .tc main_while0b_v83) = Y4 X (Proc.devRef .tc main_while0b_v83) :=
  ((((((((((Y15_of X main_while0b_v83 (by decide +kernel)).trans (Y14_of X main_while0b_v83 (by decide +kernel))).trans (Y13_of X main_while0b_v83 (by decide +kernel))).trans (Y12_of X main_while0b_v83 (by decide +kernel))).trans (Y11_of X main_while0b_v83 (by decide +kernel))).trans (Y10_of X main_while0b_v83 (by decide +kernel))).trans (Y9_of X main_while0b_v83 (by decide +kernel))).trans (Y8_of X main_while0b_v83 (by decide +kernel))).trans (Y7_of X main_while0b_v83 (by decide +kernel))).trans (Y6_of X main_while0b_v83 (by decide +kernel))).trans (Y5_of X main_while0b_v83 (by decide +kernel))

/-- After 15 stretches, the array of the logits kept for every step is what an earlier stretch left. -/
theorem y15_v187 : Y15 X (Proc.devRef .tc main_while0b_v187) = Y13 X (Proc.devRef .tc main_while0b_v187) :=
  (Y15_of X main_while0b_v187 (by decide +kernel)).trans (Y14_of X main_while0b_v187 (by decide +kernel))

/-- After 15 stretches, the array of the push masks kept for every step is what an earlier stretch left. -/
theorem y15_v188 : Y15 X (Proc.devRef .tc main_while0b_v188) = Y14 X (Proc.devRef .tc main_while0b_v188) :=
  Y15_of X main_while0b_v188 (by decide +kernel)

/-- After 16 stretches the loop's array 0 is as it was when the trip began. -/
theorem y16_a_v46_0 : Y16 X (Proc.devRef .tc main_v46_0) = X (Proc.devRef .tc main_v46_0) :=
  (((((((((((((((Y16_of X main_v46_0 (by decide +kernel)).trans (Y15_of X main_v46_0 (by decide +kernel))).trans (Y14_of X main_v46_0 (by decide +kernel))).trans (Y13_of X main_v46_0 (by decide +kernel))).trans (Y12_of X main_v46_0 (by decide +kernel))).trans (Y11_of X main_v46_0 (by decide +kernel))).trans (Y10_of X main_v46_0 (by decide +kernel))).trans (Y9_of X main_v46_0 (by decide +kernel))).trans (Y8_of X main_v46_0 (by decide +kernel))).trans (Y7_of X main_v46_0 (by decide +kernel))).trans (Y6_of X main_v46_0 (by decide +kernel))).trans (Y5_of X main_v46_0 (by decide +kernel))).trans (Y4_of X main_v46_0 (by decide +kernel))).trans (Y3_of X main_v46_0 (by decide +kernel))).trans (Y2_of X main_v46_0 (by decide +kernel))).trans (Y1_of X main_v46_0 (by decide +kernel))

/-- After 16 stretches the loop's array 1 is as it was when the trip began. -/
theorem y16_a_v46_1 : Y16 X (Proc.devRef .tc main_v46_1) = X (Proc.devRef .tc main_v46_1) :=
  (((((((((((((((Y16_of X main_v46_1 (by decide +kernel)).trans (Y15_of X main_v46_1 (by decide +kernel))).trans (Y14_of X main_v46_1 (by decide +kernel))).trans (Y13_of X main_v46_1 (by decide +kernel))).trans (Y12_of X main_v46_1 (by decide +kernel))).trans (Y11_of X main_v46_1 (by decide +kernel))).trans (Y10_of X main_v46_1 (by decide +kernel))).trans (Y9_of X main_v46_1 (by decide +kernel))).trans (Y8_of X main_v46_1 (by decide +kernel))).trans (Y7_of X main_v46_1 (by decide +kernel))).trans (Y6_of X main_v46_1 (by decide +kernel))).trans (Y5_of X main_v46_1 (by decide +kernel))).trans (Y4_of X main_v46_1 (by decide +kernel))).trans (Y3_of X main_v46_1 (by decide +kernel))).trans (Y2_of X main_v46_1 (by decide +kernel))).trans (Y1_of X main_v46_1 (by decide +kernel))

/-- After 16 stretches the loop's array 2 is as it was when the trip began. -/
theorem y16_a_v46_2 : Y16 X (Proc.devRef .tc main_v46_2) = X (Proc.devRef .tc main_v46_2) :=
  (((((((((((((((Y16_of X main_v46_2 (by decide +kernel)).trans (Y15_of X main_v46_2 (by decide +kernel))).trans (Y14_of X main_v46_2 (by decide +kernel))).trans (Y13_of X main_v46_2 (by decide +kernel))).trans (Y12_of X main_v46_2 (by decide +kernel))).trans (Y11_of X main_v46_2 (by decide +kernel))).trans (Y10_of X main_v46_2 (by decide +kernel))).trans (Y9_of X main_v46_2 (by decide +kernel))).trans (Y8_of X main_v46_2 (by decide +kernel))).trans (Y7_of X main_v46_2 (by decide +kernel))).trans (Y6_of X main_v46_2 (by decide +kernel))).trans (Y5_of X main_v46_2 (by decide +kernel))).trans (Y4_of X main_v46_2 (by decide +kernel))).trans (Y3_of X main_v46_2 (by decide +kernel))).trans (Y2_of X main_v46_2 (by decide +kernel))).trans (Y1_of X main_v46_2 (by decide +kernel))

/-- After 16 stretches the loop's array 3 is as it was when the trip began. -/
theorem y16_a_v46_3 : Y16 X (Proc.devRef .tc main_v46_3) = X (Proc.devRef .tc main_v46_3) :=
  (((((((((((((((Y16_of X main_v46_3 (by decide +kernel)).trans (Y15_of X main_v46_3 (by decide +kernel))).trans (Y14_of X main_v46_3 (by decide +kernel))).trans (Y13_of X main_v46_3 (by decide +kernel))).trans (Y12_of X main_v46_3 (by decide +kernel))).trans (Y11_of X main_v46_3 (by decide +kernel))).trans (Y10_of X main_v46_3 (by decide +kernel))).trans (Y9_of X main_v46_3 (by decide +kernel))).trans (Y8_of X main_v46_3 (by decide +kernel))).trans (Y7_of X main_v46_3 (by decide +kernel))).trans (Y6_of X main_v46_3 (by decide +kernel))).trans (Y5_of X main_v46_3 (by decide +kernel))).trans (Y4_of X main_v46_3 (by decide +kernel))).trans (Y3_of X main_v46_3 (by decide +kernel))).trans (Y2_of X main_v46_3 (by decide +kernel))).trans (Y1_of X main_v46_3 (by decide +kernel))

/-- After 16 stretches the loop's array 4 is as it was when the trip began. -/
theorem y16_a_v46_4 : Y16 X (Proc.devRef .tc main_v46_4) = X (Proc.devRef .tc main_v46_4) :=
  (((((((((((((((Y16_of X main_v46_4 (by decide +kernel)).trans (Y15_of X main_v46_4 (by decide +kernel))).trans (Y14_of X main_v46_4 (by decide +kernel))).trans (Y13_of X main_v46_4 (by decide +kernel))).trans (Y12_of X main_v46_4 (by decide +kernel))).trans (Y11_of X main_v46_4 (by decide +kernel))).trans (Y10_of X main_v46_4 (by decide +kernel))).trans (Y9_of X main_v46_4 (by decide +kernel))).trans (Y8_of X main_v46_4 (by decide +kernel))).trans (Y7_of X main_v46_4 (by decide +kernel))).trans (Y6_of X main_v46_4 (by decide +kernel))).trans (Y5_of X main_v46_4 (by decide +kernel))).trans (Y4_of X main_v46_4 (by decide +kernel))).trans (Y3_of X main_v46_4 (by decide +kernel))).trans (Y2_of X main_v46_4 (by decide +kernel))).trans (Y1_of X main_v46_4 (by decide +kernel))

/-- After 16 stretches the loop's array 5 is as it was when the trip began. -/
theorem y16_a_v46_5 : Y16 X (Proc.devRef .tc main_v46_5) = X (Proc.devRef .tc main_v46_5) :=
  (((((((((((((((Y16_of X main_v46_5 (by decide +kernel)).trans (Y15_of X main_v46_5 (by decide +kernel))).trans (Y14_of X main_v46_5 (by decide +kernel))).trans (Y13_of X main_v46_5 (by decide +kernel))).trans (Y12_of X main_v46_5 (by decide +kernel))).trans (Y11_of X main_v46_5 (by decide +kernel))).trans (Y10_of X main_v46_5 (by decide +kernel))).trans (Y9_of X main_v46_5 (by decide +kernel))).trans (Y8_of X main_v46_5 (by decide +kernel))).trans (Y7_of X main_v46_5 (by decide +kernel))).trans (Y6_of X main_v46_5 (by decide +kernel))).trans (Y5_of X main_v46_5 (by decide +kernel))).trans (Y4_of X main_v46_5 (by decide +kernel))).trans (Y3_of X main_v46_5 (by decide +kernel))).trans (Y2_of X main_v46_5 (by decide +kernel))).trans (Y1_of X main_v46_5 (by decide +kernel))

/-- After 16 stretches the loop's array 6 is as it was when the trip began. -/
theorem y16_a_v46_6 : Y16 X (Proc.devRef .tc main_v46_6) = X (Proc.devRef .tc main_v46_6) :=
  (((((((((((((((Y16_of X main_v46_6 (by decide +kernel)).trans (Y15_of X main_v46_6 (by decide +kernel))).trans (Y14_of X main_v46_6 (by decide +kernel))).trans (Y13_of X main_v46_6 (by decide +kernel))).trans (Y12_of X main_v46_6 (by decide +kernel))).trans (Y11_of X main_v46_6 (by decide +kernel))).trans (Y10_of X main_v46_6 (by decide +kernel))).trans (Y9_of X main_v46_6 (by decide +kernel))).trans (Y8_of X main_v46_6 (by decide +kernel))).trans (Y7_of X main_v46_6 (by decide +kernel))).trans (Y6_of X main_v46_6 (by decide +kernel))).trans (Y5_of X main_v46_6 (by decide +kernel))).trans (Y4_of X main_v46_6 (by decide +kernel))).trans (Y3_of X main_v46_6 (by decide +kernel))).trans (Y2_of X main_v46_6 (by decide +kernel))).trans (Y1_of X main_v46_6 (by decide +kernel))

/-- After 16 stretches the loop's array 7 is as it was when the trip began. -/
theorem y16_a_v46_7 : Y16 X (Proc.devRef .tc main_v46_7) = X (Proc.devRef .tc main_v46_7) :=
  (((((((((((((((Y16_of X main_v46_7 (by decide +kernel)).trans (Y15_of X main_v46_7 (by decide +kernel))).trans (Y14_of X main_v46_7 (by decide +kernel))).trans (Y13_of X main_v46_7 (by decide +kernel))).trans (Y12_of X main_v46_7 (by decide +kernel))).trans (Y11_of X main_v46_7 (by decide +kernel))).trans (Y10_of X main_v46_7 (by decide +kernel))).trans (Y9_of X main_v46_7 (by decide +kernel))).trans (Y8_of X main_v46_7 (by decide +kernel))).trans (Y7_of X main_v46_7 (by decide +kernel))).trans (Y6_of X main_v46_7 (by decide +kernel))).trans (Y5_of X main_v46_7 (by decide +kernel))).trans (Y4_of X main_v46_7 (by decide +kernel))).trans (Y3_of X main_v46_7 (by decide +kernel))).trans (Y2_of X main_v46_7 (by decide +kernel))).trans (Y1_of X main_v46_7 (by decide +kernel))

/-- After 16 stretches the loop's array 8 is as it was when the trip began. -/
theorem y16_a_v46_8 : Y16 X (Proc.devRef .tc main_v46_8) = X (Proc.devRef .tc main_v46_8) :=
  (((((((((((((((Y16_of X main_v46_8 (by decide +kernel)).trans (Y15_of X main_v46_8 (by decide +kernel))).trans (Y14_of X main_v46_8 (by decide +kernel))).trans (Y13_of X main_v46_8 (by decide +kernel))).trans (Y12_of X main_v46_8 (by decide +kernel))).trans (Y11_of X main_v46_8 (by decide +kernel))).trans (Y10_of X main_v46_8 (by decide +kernel))).trans (Y9_of X main_v46_8 (by decide +kernel))).trans (Y8_of X main_v46_8 (by decide +kernel))).trans (Y7_of X main_v46_8 (by decide +kernel))).trans (Y6_of X main_v46_8 (by decide +kernel))).trans (Y5_of X main_v46_8 (by decide +kernel))).trans (Y4_of X main_v46_8 (by decide +kernel))).trans (Y3_of X main_v46_8 (by decide +kernel))).trans (Y2_of X main_v46_8 (by decide +kernel))).trans (Y1_of X main_v46_8 (by decide +kernel))

/-- After 16 stretches the loop's array 9 is as it was when the trip began. -/
theorem y16_a_v46_9 : Y16 X (Proc.devRef .tc main_v46_9) = X (Proc.devRef .tc main_v46_9) :=
  (((((((((((((((Y16_of X main_v46_9 (by decide +kernel)).trans (Y15_of X main_v46_9 (by decide +kernel))).trans (Y14_of X main_v46_9 (by decide +kernel))).trans (Y13_of X main_v46_9 (by decide +kernel))).trans (Y12_of X main_v46_9 (by decide +kernel))).trans (Y11_of X main_v46_9 (by decide +kernel))).trans (Y10_of X main_v46_9 (by decide +kernel))).trans (Y9_of X main_v46_9 (by decide +kernel))).trans (Y8_of X main_v46_9 (by decide +kernel))).trans (Y7_of X main_v46_9 (by decide +kernel))).trans (Y6_of X main_v46_9 (by decide +kernel))).trans (Y5_of X main_v46_9 (by decide +kernel))).trans (Y4_of X main_v46_9 (by decide +kernel))).trans (Y3_of X main_v46_9 (by decide +kernel))).trans (Y2_of X main_v46_9 (by decide +kernel))).trans (Y1_of X main_v46_9 (by decide +kernel))

/-- After 16 stretches the loop's array 10 is as it was when the trip began. -/
theorem y16_a_v46_10 : Y16 X (Proc.devRef .tc main_v46_10) = X (Proc.devRef .tc main_v46_10) :=
  (((((((((((((((Y16_of X main_v46_10 (by decide +kernel)).trans (Y15_of X main_v46_10 (by decide +kernel))).trans (Y14_of X main_v46_10 (by decide +kernel))).trans (Y13_of X main_v46_10 (by decide +kernel))).trans (Y12_of X main_v46_10 (by decide +kernel))).trans (Y11_of X main_v46_10 (by decide +kernel))).trans (Y10_of X main_v46_10 (by decide +kernel))).trans (Y9_of X main_v46_10 (by decide +kernel))).trans (Y8_of X main_v46_10 (by decide +kernel))).trans (Y7_of X main_v46_10 (by decide +kernel))).trans (Y6_of X main_v46_10 (by decide +kernel))).trans (Y5_of X main_v46_10 (by decide +kernel))).trans (Y4_of X main_v46_10 (by decide +kernel))).trans (Y3_of X main_v46_10 (by decide +kernel))).trans (Y2_of X main_v46_10 (by decide +kernel))).trans (Y1_of X main_v46_10 (by decide +kernel))

end

/-- What a valuation before a trip holds: the arrays the loop carries unchanged, and the rows' states. -/
structure Holds (P : Par) (xT : S32x64.Idx → BitVec 32) (Wp : S512x8192.Idx → EReal) (bp : S8192.Idx → EReal) (s : Fin 64 → Row)
    (X : Valuation τ sig (Elt Ideal)) : Prop where
  h0 : X (Proc.devRef .tc main_v46_0) = xT
  h1 : ∀ b : Fin 64, X (Proc.devRef .tc main_v46_1) (ix1 b) = BitVec.ofNat 32 b.val
  h2 : X (Proc.devRef .tc main_v46_2) = P.emb
  h3 : X (Proc.devRef .tc main_v46_3) = P.Wt
  h4 : X (Proc.devRef .tc main_v46_4) = P.Ut
  h5 : X (Proc.devRef .tc main_v46_5) = P.Ws
  h6 : X (Proc.devRef .tc main_v46_6) = P.Us
  h7 : X (Proc.devRef .tc main_v46_7) = P.Wnt
  h8 : X (Proc.devRef .tc main_v46_8) = Wp
  h9 : X (Proc.devRef .tc main_v46_9) = bp
  h10 : X (Proc.devRef .tc main_v46_10) = P.cb
  h12 : ∀ (b : Fin 64) (j : Fin 66) (d : Fin 256), X (Proc.devRef .tc main_v46_12) (ix3 b j d) = tagRow P.cb ((s b).t j.val) d
  h13 : ∀ b : Fin 64, X (Proc.devRef .tc main_v46_13) (ix1 b) = BitVec.ofNat 32 (s b).p
  h14 : ∀ (b : Fin 64) (n : Fin 512), X (Proc.devRef .tc main_v46_14) (ix2 b n) = (s b).ht n
  h15 : ∀ (b : Fin 64) (n : Fin 512), X (Proc.devRef .tc main_v46_15) (ix2 b n) = (s b).hs n

section
variable {P : Par} {xT : S32x64.Idx → BitVec 32} {Wp : S512x8192.Idx → EReal} {bp : S8192.Idx → EReal} {s : Fin 64 → Row}
  {X : Valuation τ sig (Elt Ideal)} (H : Holds P xT Wp bp s X) (k : Fin 32) (hk : X (Proc.devRef .tc main_v46_11) = fun _ => BitVec.ofNat 32 k.val)
  (hp : ∀ b, (s b).p ≤ 60)

include H hk hp

/-- In a trip, the step's tokens: the step's row of the token sequence. -/
theorem f50 (b : Fin 64) : Y1 X (Proc.devRef .tc main_while0b_v50) (ix1 b) = xT (ix2 k b) :=
  (s0_v50 X k hk b).trans (congrFun H.h0 _)

omit hk in
/-- In a trip, the pointer after the pop: the recurrence's pointer less one. -/
theorem f57 (b : Fin 64) : Y2 X (Proc.devRef .tc main_while0b_v57) (ix1 b) = BitVec.ofNat 32 ((s b).p - 1) := by
  refine (s1_v57 (Y1 X) b).trans ?_
  rw [y1_a_v46_13, H.h13]
  exact pop_word _ (by have := hp b; omega)

omit hk in
/-- In a trip, the row popped: the recurrence's top row. -/
theorem f71 (b : Fin 64) (d : Fin 256) : Y2 X (Proc.devRef .tc main_while0b_v71) (ix2 b d) = top P (s b) d := by
  have h := hp b
  refine (s1_v71 (Y1 X) b d).trans ?_
  rw [y1_a_v46_13, y1_a_v46_12, y1_a_v46_1, H.h13, H.h1, pop_word _ (by omega), wrapW_ofNat _ _ (by omega), wrapW_ofNat _ _ (by omega),
    clampW_ofNat _ _ (by decide)]
  have e := clampW_ofNat 66 (by decide) (by decide) ⟨(s b).p - 1, by omega⟩
  rw [e, H.h12]
  rfl

/-- In a trip, the step mask: the recurrence's step mask. -/
theorem f75 (b : Fin 64) : Y2 X (Proc.devRef .tc main_while0b_v75) (ix1 b) = BitVec.ofNat 32 (sm (xT (ix2 k b)) (s b)) := by
  refine (s1_v75 (Y1 X) b).trans ?_
  rw [y1_a_v46_13, H.h13, f50 H k hk hp]
  exact mask_word _ _ (by have := hp b; omega)

/-- In a trip, the tokens' embedding rows: the embedding of the token. -/
theorem f76 (b : Fin 64) (d : Fin 256) : Y3 X (Proc.devRef .tc main_while0b_v76) (ix2 b d) = takeEmb P.emb (xT (ix2 k b)) d := by
  refine (s2_v76 (Y2 X) b d).trans ?_
  rw [y2_v50, y2_a_v46_2, H.h2, f50 H k hk hp]

/-- In a trip, the new token hidden row before tanh: the recurrence's new token hidden row. -/
theorem f80 (b : Fin 64) (n : Fin 512) : Y4 X (Proc.devRef .tc main_while0b_v80) (ix2 b n) = ht' P (xT (ix2 k b)) (s b) n := by
  refine (s3_v80 (Y3 X) b n).trans ?_
  rw [y3_a_v46_3, y3_a_v46_4, y3_a_v46_14, y3_v71, H.h3, H.h4]
  simp only [H.h14, f71 H hp, f76 H k hk hp]
  rfl

/-- In a trip, the new stack hidden row before tanh: the recurrence's new stack hidden row. -/
theorem f83 (b : Fin 64) (n : Fin 512) : Y4 X (Proc.devRef .tc main_while0b_v83) (ix2 b n) = hs' P (xT (ix2 k b)) (s b) n := by
  refine (s3_v83 (Y3 X) b n).trans ?_
  rw [y3_a_v46_5, y3_a_v46_6, y3_a_v46_15, y3_v71, H.h5, H.h6]
  simp only [H.h15, f71 H hp, f76 H k hk hp]
  rfl

/-- In a trip, the two codes: the recurrence's codes. -/
theorem f89 (b : Fin 64) (i : Fin 2) (d : Fin 256) : Y4 X (Proc.devRef .tc main_while0b_v89) (ix3 b i d) = codeAt P (xT (ix2 k b)) (s b) i d := by
  refine (s3_v89 (Y3 X) b d i).trans ?_
  rw [y3_a_v46_3, y3_a_v46_4, y3_a_v46_14, y3_a_v46_5, y3_a_v46_6, y3_a_v46_15, y3_a_v46_7, y3_v71, H.h3, H.h4, H.h5, H.h6, H.h7]
  simp only [H.h14, H.h15, f71 H hp, f76 H k hk hp]
  rfl

/-- In a trip, the logits: the linear image of tanh of the new token hidden row, plus the bias. -/
theorem f93 (b : Fin 64) (v : Fin 8192) : Y4 X (Proc.devRef .tc main_while0b_v93) (ix2 b v)
    = (∑ n : Fin 512, Ideal.tanh (ht' P (xT (ix2 k b)) (s b) n) * Wp (ix2 n v)) + bp (ix1 v) := by
  refine (s3_v93 (Y3 X) b v).trans ?_
  rw [y3_a_v46_3, y3_a_v46_4, y3_a_v46_14, y3_a_v46_8, y3_a_v46_9, y3_v71, H.h3, H.h4, H.h8, H.h9]
  simp only [H.h14, f71 H hp, f76 H k hk hp]
  rfl

/-- In a trip, the distances: square roots of the recurrence's squared distances. -/
theorem f99 (r : Fin 128) (q : Fin 1024) : Y5 X (Proc.devRef .tc main_while0b_v99) (ix2 r q)
    = Ideal.sqrt (dist P.cb (codeAt P (xT (ix2 k ⟨r.val / 2, by omega⟩)) (s ⟨r.val / 2, by omega⟩) ⟨r.val % 2, by omega⟩) q) := by
  have e : ∀ d, Y4 X (Proc.devRef .tc main_while0b_v98) (ix3 r q d)
      = codeAt P (xT (ix2 k ⟨r.val / 2, by omega⟩)) (s ⟨r.val / 2, by omega⟩) ⟨r.val % 2, by omega⟩ d - P.cb (ix2 q d) := fun d =>
    (s3_v98 (Y3 X) d r q (Y4 X (Proc.devRef .tc main_while0b_v89)) rfl P.cb ((y3_a_v46_10 X).trans H.h10)).trans
      (congrArg (fun a : EReal => a - P.cb (ix2 q d)) (f89 H k hk hp ⟨r.val / 2, by omega⟩ ⟨r.val % 2, by omega⟩ d))
  generalize hy : (Y4 X (Proc.devRef .tc main_while0b_v98) : S128x1024x256.Idx → EReal) = y at e
  refine (s4_v99 (Y4 X) r q y hy).trans ?_
  exact congrArg Ideal.sqrt (Finset.sum_congr rfl fun d _ => by rw [e d])

/-- In a trip, the nearest codebook positions: the recurrence's nearest positions. -/
theorem f100 (r : Fin 128) : Y6 X (Proc.devRef .tc main_while0b_v100) (ix1 r)
    = BitVec.ofNat 32 (qi P (xT (ix2 k ⟨r.val / 2, by omega⟩)) (s ⟨r.val / 2, by omega⟩) ⟨r.val % 2, by omega⟩).val := by
  refine (s5_v100 (Y5 X) r _ rfl).trans ?_
  refine congrArg (fun i : Fin 1024 => BitVec.ofNat 32 i.val) ?_
  rw [show (fun q : Fin 1024 => Y5 X (Proc.devRef .tc main_while0b_v99) (ix2 r q)) = fun q => Ideal.sqrt (dist P.cb _ q) from funext fun q => f99 H k hk hp r q]
  exact firstMin_sqrt _ (dist_nonneg _ _)

/-- In a trip, the nearest codebook rows: the codebook rows at the nearest positions. -/
theorem f101 (r : Fin 128) (d : Fin 256) : Y7 X (Proc.devRef .tc main_while0b_v101) (ix2 r d)
    = P.cb (ix2 (qi P (xT (ix2 k ⟨r.val / 2, by omega⟩)) (s ⟨r.val / 2, by omega⟩) ⟨r.val % 2, by omega⟩) d) := by
  refine (s6_v101 (Y6 X) d r _ (f100 H k hk hp r)).trans ?_
  rw [y6_a_v46_10, H.h10]

/-- In a trip, the nearest codebook rows: the codebook rows at the nearest positions, numbered by batch row and code. -/
theorem f101' (b : Fin 64) (i : Fin 2) (d : Fin 256) : Y7 X (Proc.devRef .tc main_while0b_v101) (ix2 (⟨b.val * 2 + i.val, by omega⟩ : Fin 128) d)
    = P.cb (ix2 (qi P (xT (ix2 k b)) (s b) i) d) := by
  rw [f101 H k hk hp]
  have hb : (⟨(b.val * 2 + i.val) / 2, by omega⟩ : Fin 64) = b := Fin.ext (by show (b.val * 2 + i.val) / 2 = b.val; omega)
  have hi : (⟨(b.val * 2 + i.val) % 2, by omega⟩ : Fin 2) = i := Fin.ext (by show (b.val * 2 + i.val) % 2 = i.val; omega)
  simp only [hb, hi]

/-- In a trip, the nearest codebook positions: the recurrence's nearest positions, numbered by batch row and code. -/
theorem f100' (b : Fin 64) (i : Fin 2) : Y7 X (Proc.devRef .tc main_while0b_v100) (ix1 (⟨b.val * 2 + i.val, by omega⟩ : Fin 128))
    = BitVec.ofNat 32 (qi P (xT (ix2 k b)) (s b) i).val := by
  rw [y7_v100, f100 H k hk hp]
  have hb : (⟨(b.val * 2 + i.val) / 2, by omega⟩ : Fin 64) = b := Fin.ext (by show (b.val * 2 + i.val) / 2 = b.val; omega)
  have hi : (⟨(b.val * 2 + i.val) % 2, by omega⟩ : Fin 2) = i := Fin.ext (by show (b.val * 2 + i.val) % 2 = i.val; omega)
  simp only [hb, hi]

/-- In a trip, the nearest codebook rows in pairs: the codebook rows at the nearest positions. -/
theorem f102 (b : Fin 64) (i : Fin 2) (d : Fin 256) : Y8 X (Proc.devRef .tc main_while0b_v102) (ix3 b i d) = P.cb (ix2 (qi P (xT (ix2 k b)) (s b) i) d) :=
  (s7_v102 (Y7 X) b d i).trans (f101' H k hk hp b i d)

/-- In a trip, the push masks: the recurrence's push masks. -/
theorem f106 (b : Fin 64) (i : Fin 2) : Y8 X (Proc.devRef .tc main_while0b_v106) (ix2 b i) = BitVec.ofNat 32 (pm P (xT (ix2 k b)) (s b) i) := by
  refine (s7_v106 (Y7 X) b i).trans ?_
  rw [f100' H k hk hp, y7_v75, f75 H k hk hp, mul_word]
  rfl

/-- In a trip, the first row to push: the codebook row nearest to the first code. -/
theorem f108 (b : Fin 64) (d : Fin 256) : Y8 X (Proc.devRef .tc main_while0b_v108) (ix2 b d) = P.cb (ix2 (qi P (xT (ix2 k b)) (s b) 0) d) :=
  (s7_v108 (Y7 X) b d).trans (f101' H k hk hp b 0 d)

/-- In a trip, the first push mask: the recurrence's first push mask. -/
theorem f110 (b : Fin 64) : Y8 X (Proc.devRef .tc main_while0b_v110) (ix1 b) = BitVec.ofNat 32 (pm P (xT (ix2 k b)) (s b) 0) := by
  refine (s7_v110 (Y7 X) b).trans ?_
  have e := f100' H k hk hp b 0
  rw [show (⟨b.val * 2, by omega⟩ : Fin 128) = ⟨b.val * 2 + (0 : Fin 2).val, by omega⟩ from rfl, e, y7_v75, f75 H k hk hp, mul_word]
  rfl

/-- In a trip, whether the first push happens: the test of the recurrence's first push mask against zero. -/
theorem f127 (b : Fin 64) : Y8 X (Proc.devRef .tc main_while0b_v127) (ix2 b (0 : Fin 1)) = IntOp.cmpi .sgt (BitVec.ofNat 32 (pm P (xT (ix2 k b)) (s b) 0)) 0#32 := by
  rw [← f110 H k hk hp]
  exact (s7_v127 (Y7 X) b).trans (congrArg (IntOp.cmpi .sgt · 0#32) (s7_v110 (Y7 X) b).symm)

omit hk in
/-- In a trip, the row at the pointer: the row that the tag at the pointer stands for. -/
theorem f124 (b : Fin 64) (d : Fin 256) : Y8 X (Proc.devRef .tc main_while0b_v124) (ix2 b d) = tagRow P.cb ((s b).t ((s b).p - 1)) d := by
  have h := hp b
  refine (s7_v124 (Y7 X) b d).trans ?_
  rw [y7_v57, y7_a_v46_12, y7_a_v46_1, f57 H hp, H.h1, wrapW_ofNat _ _ (by omega), wrapW_ofNat _ _ (by omega), clampW_ofNat _ _ (by decide)]
  have e := clampW_ofNat 66 (by decide) (by decide) ⟨(s b).p - 1, by omega⟩
  rw [e, H.h12]

/-- In a trip, the row the first push writes: the nearest row where the first push happens and the old row elsewhere. -/
theorem f128 (b : Fin 64) (d : Fin 256) : Y9 X (Proc.devRef .tc main_while0b_v128) (ix2 b d)
    = if 0 < pm P (xT (ix2 k b)) (s b) 0 then P.cb (ix2 (qi P (xT (ix2 k b)) (s b) 0) d) else tagRow P.cb ((s b).t ((s b).p - 1)) d := by
  refine (s8_v128 (Y8 X) b d).trans ?_
  rw [f127 H k hk hp, f108 H k hk hp, f124 H hp]
  exact select_pos _ (by have := pm_lt P (xT (ix2 k b)) (s b) 0; omega) _ _

omit H hk hp in
/-- Where something is pushed its number is positive, so the tag stands for its row. -/
theorem tagRow_of_pm (w : BitVec 32) (r : Row) (i : Fin 2) (h : 0 < pm P w r i) (d : Fin 256) : tagRow P.cb (qi P w r i) d = P.cb (ix2 (qi P w r i) d) := by
  refine if_pos (Nat.pos_of_ne_zero fun h0 => ?_)
  unfold pm at h
  rw [h0, Nat.zero_mul] at h
  exact absurd h (lt_irrefl 0)

/-- In a trip, the stack after the first push: the rows that the recurrence's tags after the first push stand for. -/
theorem f142 (b : Fin 64) (j : Fin 66) (d : Fin 256) : Y10 X (Proc.devRef .tc main_while0b_v142) (ix3 b j d)
    = tagRow P.cb (if 0 < pm P (xT (ix2 k b)) (s b) 0 ∧ j.val = (s b).p - 1 then qi P (xT (ix2 k b)) (s b) 0 else (s b).t j.val) d := by
  refine (s9_v142 (Y9 X) b d j (fun b => ⟨(s b).p - 1, by have := hp b; omega⟩) (fun b => ?_) (fun b => ?_)).trans ?_
  · rw [y9_a_v46_1]; exact H.h1 b
  · rw [y9_v57]; exact f57 H hp b
  · rw [y9_a_v46_12, f128 H k hk hp, H.h12]
    have hj : (j = (⟨(s b).p - 1, by have := hp b; omega⟩ : Fin 66)) ↔ j.val = (s b).p - 1 := ⟨fun h => congrArg Fin.val h, fun h => Fin.ext h⟩
    by_cases h : j.val = (s b).p - 1
    · rw [if_pos (hj.2 h)]
      by_cases h2 : 0 < pm P (xT (ix2 k b)) (s b) 0
      · rw [if_pos h2, if_pos ⟨h2, h⟩, tagRow_of_pm _ _ _ h2]
      · rw [if_neg h2, if_neg (fun hh => h2 hh.1), h]
    · rw [if_neg (fun hh => h (hj.1 hh)), if_neg (fun hh => h hh.2)]

/-- In a trip, the pointer after the first push: the recurrence's pointer after the pop, raised by the first push. -/
theorem f146 (b : Fin 64) : Y10 X (Proc.devRef .tc main_while0b_v146) (ix1 b) = BitVec.ofNat 32 ((s b).p - 1 + pv P (xT (ix2 k b)) (s b) 0) := by
  refine (s9_v146 (Y9 X) b).trans ?_
  rw [y9_v57, y9_v110, f57 H hp, f110 H k hk hp]
  exact push_word _ _ (by have := pm_lt P (xT (ix2 k b)) (s b) 0; omega)

/-- In a trip, the second push mask: the recurrence's second push mask. -/
theorem f150 (b : Fin 64) : Y10 X (Proc.devRef .tc main_while0b_v150) (ix1 b) = BitVec.ofNat 32 (pm P (xT (ix2 k b)) (s b) 1) := by
  refine (s9_v150 (Y9 X) b).trans ?_
  rw [y9_v106]
  exact f106 H k hk hp b 1

/-- In a trip, the row the second push writes: the nearest row where the second push happens and the old row elsewhere. -/
theorem f168 (b : Fin 64) (d : Fin 256) (j : Fin 66) (hj : j.val = (s b).p - 1 + pv P (xT (ix2 k b)) (s b) 0) : Y11 X (Proc.devRef .tc main_while0b_v168) (ix2 b d)
    = if 0 < pm P (xT (ix2 k b)) (s b) 1 then P.cb (ix2 (qi P (xT (ix2 k b)) (s b) 1) d) else Y10 X (Proc.devRef .tc main_while0b_v142) (ix3 b j d) := by
  refine (s10_v168 (Y10 X) b d).trans ?_
  have e1 : Y10 X (Proc.devRef .tc main_while0b_v164) (ix2 b d) = Y10 X (Proc.devRef .tc main_while0b_v142) (ix3 b j d) :=
    s9_v164 (Y9 X) b d j (by rw [y9_a_v46_1]; exact H.h1 b) (by rw [hj]; exact f146 H k hk hp b)
  have e2 : Y10 X (Proc.devRef .tc main_while0b_v148) (ix2 b d) = P.cb (ix2 (qi P (xT (ix2 k b)) (s b) 1) d) := by
    refine (s9_v148 (Y9 X) b d).trans ?_
    rw [y9_v102]
    exact f102 H k hk hp b 1 d
  have e3 : Y10 X (Proc.devRef .tc main_while0b_v167) (ix2 b (0 : Fin 1)) = IntOp.cmpi .sgt (BitVec.ofNat 32 (pm P (xT (ix2 k b)) (s b) 1)) 0#32 := by
    refine (s9_v167 (Y9 X) b).trans ?_
    rw [y9_v106, f106 H k hk hp]
  rw [e1, e2, e3]
  exact select_pos _ (by have := pm_lt P (xT (ix2 k b)) (s b) 1; omega) _ _

/-- In a trip, the stack after the step: the rows that the next state's tags stand for. -/
theorem f182 (b : Fin 64) (j : Fin 66) (d : Fin 256) : Y12 X (Proc.devRef .tc main_while0b_v182) (ix3 b j d)
    = tagRow P.cb ((step P (xT (ix2 k b)) (s b)).t j.val) d := by
  have hb : ∀ b, (s b).p - 1 + pv P (xT (ix2 k b)) (s b) 0 < 66 := fun b => by
    have := hp b; have := pv_le P (xT (ix2 k b)) (s b) 0; omega
  refine (s11_v182 (Y11 X) b d j (fun b => ⟨(s b).p - 1 + pv P (xT (ix2 k b)) (s b) 0, hb b⟩) (fun b => ?_) (fun b => ?_)).trans ?_
  · rw [y11_a_v46_1]; exact H.h1 b
  · rw [y11_v146]; exact f146 H k hk hp b
  · rw [y11_v142, f168 H k hk hp b d ⟨(s b).p - 1 + pv P (xT (ix2 k b)) (s b) 0, hb b⟩ rfl, f142 H k hk hp, f142 H k hk hp]
    have hj : (j = (⟨(s b).p - 1 + pv P (xT (ix2 k b)) (s b) 0, hb b⟩ : Fin 66)) ↔ j.val = (s b).p - 1 + pv P (xT (ix2 k b)) (s b) 0 :=
      ⟨fun h => congrArg Fin.val h, fun h => Fin.ext h⟩
    show _ = tagRow P.cb (if 0 < pm P (xT (ix2 k b)) (s b) 1 ∧ j.val = (s b).p - 1 + pv P (xT (ix2 k b)) (s b) 0 then qi P (xT (ix2 k b)) (s b) 1
      else if 0 < pm P (xT (ix2 k b)) (s b) 0 ∧ j.val = (s b).p - 1 then qi P (xT (ix2 k b)) (s b) 0 else (s b).t j.val) d
    by_cases h : j.val = (s b).p - 1 + pv P (xT (ix2 k b)) (s b) 0
    · rw [if_pos (hj.2 h)]
      by_cases h2 : 0 < pm P (xT (ix2 k b)) (s b) 1
      · rw [if_pos h2, if_pos ⟨h2, h⟩, tagRow_of_pm _ _ _ h2]
      · rw [if_neg h2]
        simp only [h, h2, false_and, if_false]
    · rw [if_neg (fun hh => h (hj.1 hh))]
      simp only [h, and_false, if_false]

/-- In a trip, the pointer after the step: the next state's pointer. -/
theorem f186 (b : Fin 64) : Y12 X (Proc.devRef .tc main_while0b_v186) (ix1 b) = BitVec.ofNat 32 (step P (xT (ix2 k b)) (s b)).p := by
  refine (s11_v186 (Y11 X) b).trans ?_
  rw [y11_v146, y11_v150, f146 H k hk hp, f150 H k hk hp]
  exact push_word _ _ (by have := pm_lt P (xT (ix2 k b)) (s b) 1; omega)

/-- In a trip, the logits kept for every step: as before, with the step's row holding the recurrence's logits. -/
theorem f187 (t : Fin 32) (b : Fin 64) (v : Fin 8192) : Y16 X (Proc.devRef .tc main_v46_16) (ix3 t b v)
    = if t = k then (∑ n : Fin 512, Ideal.tanh (ht' P (xT (ix2 k b)) (s b) n) * Wp (ix2 n v)) + bp (ix1 v) else X (Proc.devRef .tc main_v46_16) (ix3 t b v) := by
  have e : Y16 X (Proc.devRef .tc main_v46_16) = Y15 X (Proc.devRef .tc main_while0b_v187) := by
    show after while0Ops0_15 (Y15 X) _ = _
    after_reads_simp
    rfl
  rw [e, y15_v187]
  refine (s12_v187 (Y12 X) k ((y12_a_v46_11 X).trans hk) t b v).trans ?_
  rw [y12_v93, y12_a_v46_16, f93 H k hk hp]

/-- In a trip, the push masks kept for every step: as before, with the step's row holding the recurrence's push masks. -/
theorem f188 (t : Fin 32) (b : Fin 64) (i : Fin 2) : Y16 X (Proc.devRef .tc main_v46_17) (ix3 t b i)
    = if t = k then BitVec.ofNat 32 (pm P (xT (ix2 k b)) (s b) i) else X (Proc.devRef .tc main_v46_17) (ix3 t b i) := by
  have e : Y16 X (Proc.devRef .tc main_v46_17) = Y15 X (Proc.devRef .tc main_while0b_v188) := by
    show after while0Ops0_15 (Y15 X) _ = _
    after_reads_simp
    rfl
  rw [e, y15_v188]
  refine (s13_v188 (Y13 X) k ((y13_a_v46_11 X).trans hk) t b i).trans ?_
  rw [y13_v106, y13_a_v46_17, f106 H k hk hp]

/-- In a trip, the codes kept for every step: as before, with the step's row holding the recurrence's codes. -/
theorem f189 (t : Fin 32) (b : Fin 64) (i : Fin 2) (d : Fin 256) : Y16 X (Proc.devRef .tc main_v46_18) (ix4 t b i d)
    = if t = k then codeAt P (xT (ix2 k b)) (s b) i d else X (Proc.devRef .tc main_v46_18) (ix4 t b i d) := by
  have e : Y16 X (Proc.devRef .tc main_v46_18) = Y15 X (Proc.devRef .tc main_while0b_v189) := by
    show after while0Ops0_15 (Y15 X) _ = _
    after_reads_simp
    rfl
  rw [e]
  refine (s14_v189 (Y14 X) k ((y14_a_v46_11 X).trans hk) t b i d).trans ?_
  rw [y14_v89, y14_a_v46_18, f89 H k hk hp]

/-- One trip takes the rows' states to their steps. -/
theorem holds_step : Holds P xT Wp bp (fun b => step P (xT (ix2 k b)) (s b)) (Y16 X) where
  h0 := (y16_a_v46_0 X).trans H.h0
  h1 := fun b => (congrFun (y16_a_v46_1 X) _).trans (H.h1 b)
  h2 := (y16_a_v46_2 X).trans H.h2
  h3 := (y16_a_v46_3 X).trans H.h3
  h4 := (y16_a_v46_4 X).trans H.h4
  h5 := (y16_a_v46_5 X).trans H.h5
  h6 := (y16_a_v46_6 X).trans H.h6
  h7 := (y16_a_v46_7 X).trans H.h7
  h8 := (y16_a_v46_8 X).trans H.h8
  h9 := (y16_a_v46_9 X).trans H.h9
  h10 := (y16_a_v46_10 X).trans H.h10
  h12 := fun b j d => by
    have e : Y16 X (Proc.devRef .tc main_v46_12) = Y15 X (Proc.devRef .tc main_while0b_v182) := by
      show after while0Ops0_15 (Y15 X) _ = _
      after_reads_simp
      rfl
    rw [e, y15_v182]
    exact f182 H k hk hp b j d
  h13 := fun b => by
    have e : Y16 X (Proc.devRef .tc main_v46_13) = Y15 X (Proc.devRef .tc main_while0b_v186) := by
      show after while0Ops0_15 (Y15 X) _ = _
      after_reads_simp
      rfl
    rw [e, y15_v186]
    exact f186 H k hk hp b
  h14 := fun b n => by
    have e : Y16 X (Proc.devRef .tc main_v46_14) = Y15 X (Proc.devRef .tc main_while0b_v80) := by
      show after while0Ops0_15 (Y15 X) _ = _
      after_reads_simp
      rfl
    rw [e, y15_v80]
    exact f80 H k hk hp b n
  h15 := fun b n => by
    have e : Y16 X (Proc.devRef .tc main_v46_15) = Y15 X (Proc.devRef .tc main_while0b_v83) := by
      show after while0Ops0_15 (Y15 X) _ = _
      after_reads_simp
      rfl
    rw [e, y15_v83]
    exact f83 H k hk hp b n

end

end Cert.ReferenceIdeal.Hand

end
-- ==== Proof.RResult.lean ====
/-
  The reference's results: the rows' states at the loop's entry, before every trip, and the three results in closed form.
-/
module

public import proofs.«01_k».proof.Proof.RStep
public import proofs.«01_k».proof.Proof.RefFrame

@[expose] public section

set_option maxRecDepth 16384

noncomputable section

open Idealize.ShloMosaic Idealize.ShloMosaic.StableHlo

namespace Cert.ReferenceIdeal.Hand

open Cert.ReferenceIdeal Cert.ReferenceIdeal.Gen Cert.ReferenceIdeal.Value Cert.Rnn

variable (m : (ℓ : Loc nD τ sig) → Buf (Elt Ideal) ℓ) (c : Dev nD)

/-- The arguments the recurrence reads, as one record. -/
def par : Par where
  emb := m ((c.tc : Thread nD τ).loc main_arg0)
  Wt := m ((c.tc : Thread nD τ).loc main_arg1)
  Ut := m ((c.tc : Thread nD τ).loc main_arg2)
  Ws := m ((c.tc : Thread nD τ).loc main_arg3)
  Us := m ((c.tc : Thread nD τ).loc main_arg4)
  Wnt := m ((c.tc : Thread nD τ).loc main_arg9)
  cb := m ((c.tc : Thread nD τ).loc main_arg10)

/-- The tokens, steps first. -/
def xT : S32x64.Idx → BitVec 32 := fun i => m ((c.tc : Thread nD τ).loc main_arg11) (ix2 (i 1) (i 0))

/-- At entry the loop's token array holds the tokens, steps first. -/
theorem e0 : entryContents preI m c (Proc.devRef .tc main_v46_0) = xT m c := by
  simp only [entryContents, afterL_cons, afterL_nil]
  funext i
  idx_vars i
  after_reads_at
  simp only [id_eq]
  pointwise
  rfl

/-- At entry the batch-row numbers are in place. -/
theorem e1 (b : Fin 64) : entryContents preI m c (Proc.devRef .tc main_v46_1) (ix1 b) = BitVec.ofNat 32 b.val := by
  simp only [entryContents, afterL_cons, afterL_nil]
  after_reads_at
  rfl

/-- At entry every pointer is one. -/
theorem e13 (b : Fin 64) : entryContents preI m c (Proc.devRef .tc main_v46_13) (ix1 b) = BitVec.ofNat 32 1 := by
  simp only [entryContents, afterL_cons, afterL_nil]
  after_reads_at
  simp only [id_eq]
  pointwise
  decide

/-- At entry the token hidden row is zero. -/
theorem e14 (b : Fin 64) (n : Fin 512) : entryContents preI m c (Proc.devRef .tc main_v46_14) (ix2 b n) = (0 : EReal) := by
  simp only [entryContents, afterL_cons, afterL_nil]
  after_reads_at
  simp only [id_eq]
  pointwise

/-- At entry the stack hidden row is zero. -/
theorem e15 (b : Fin 64) (n : Fin 512) : entryContents preI m c (Proc.devRef .tc main_v46_15) (ix2 b n) = (0 : EReal) := by
  simp only [entryContents, afterL_cons, afterL_nil]
  after_reads_at
  simp only [id_eq]
  pointwise

/-- The second stretch before the loop picks between two rows by a bit. -/
theorem p22 (X : Valuation τ sig (Elt Ideal)) (b : Fin 64) (d : Fin 256) : after hostOps0_1 X (Proc.devRef .tc main_v22) (ix2 b d)
    = Scalar.select (X (Proc.devRef .tc main_v21) (ix2 b (0 : Fin 1))) (X (Proc.devRef .tc main_v3) (ix2 b d)) (X (Proc.devRef .tc main_v18) (ix2 b d)) := by
  after_reads_at

/-- The third stretch before the loop writes one row at the bottom of the stack. -/
theorem p12 (X : Valuation τ sig (Elt Ideal)) (b : Fin 64) (j : Fin 66) (d : Fin 256) (h0 : ∀ b : Fin 64, X (Proc.devRef .tc main_v0) (ix1 b) = BitVec.ofNat 32 b.val)
    (h1 : ∀ b : Fin 64, X (Proc.devRef .tc main_v2) (ix1 b) = BitVec.ofNat 32 (0 : Fin 66).val) : after hostOps0_2 X (Proc.devRef .tc main_v46_12) (ix3 b j d)
    = if j = 0 then X (Proc.devRef .tc main_v22) (ix2 b d) else X (Proc.devRef .tc main_v1) (ix3 b j d) := by
  after_reads_simp
  simp only [id_eq]
  rw [scatterPair (p := fun _ => 0)]
  · intro b
    pointwise
    after_reads_at
    have := wrapW_ofNat 64#32 b.val (by omega)
    rw [← h0] at this
    exact this.trans (h0 b)
  · intro b
    pointwise
    after_reads_at
    have := wrapW_ofNat 66#32 (0 : Fin 66).val (by omega)
    rw [← h1] at this
    exact this.trans (h1 b)

/-- At entry every stack is zero. -/
theorem e12 (b : Fin 64) (j : Fin 66) (d : Fin 256) : entryContents preI m c (Proc.devRef .tc main_v46_12) (ix3 b j d) = (0 : EReal) := by
  simp only [entryContents, afterL_cons, afterL_nil]
  refine (p12 _ b j d (fun b => ?_) (fun b => ?_)).trans ?_
  · after_reads_at
    try rfl
  · after_reads_at
    try rfl
  · by_cases hj : j = 0
    · rw [if_pos hj]
      refine (p22 _ b d).trans ?_
      have e21 : after hostOps0 (launchContents m c) (Proc.devRef .tc main_v21) (ix2 b (0 : Fin 1)) = 1#1 := by
        after_reads_at
        try rfl
      have e3 : after hostOps0 (launchContents m c) (Proc.devRef .tc main_v3) (ix2 b d) = (0 : EReal) := by
        after_reads_at
        try rfl
      rw [e21, e3]
      rfl
    · rw [if_neg hj]
      after_reads_at
      try rfl

/-- At entry the loop's array 2 is argument 0. -/
theorem e2 : entryContents preI m c (Proc.devRef .tc main_v46_2) = m ((c.tc : Thread nD τ).loc main_arg0) := by
  simp only [entryContents, afterL_cons, afterL_nil]
  after_reads_simp
  rfl

/-- At entry the loop's array 3 is argument 1. -/
theorem e3 : entryContents preI m c (Proc.devRef .tc main_v46_3) = m ((c.tc : Thread nD τ).loc main_arg1) := by
  simp only [entryContents, afterL_cons, afterL_nil]
  after_reads_simp
  rfl

/-- At entry the loop's array 4 is argument 2. -/
theorem e4 : entryContents preI m c (Proc.devRef .tc main_v46_4) = m ((c.tc : Thread nD τ).loc main_arg2) := by
  simp only [entryContents, afterL_cons, afterL_nil]
  after_reads_simp
  rfl

/-- At entry the loop's array 5 is argument 3. -/
theorem e5 : entryContents preI m c (Proc.devRef .tc main_v46_5) = m ((c.tc : Thread nD τ).loc main_arg3) := by
  simp only [entryContents, afterL_cons, afterL_nil]
  after_reads_simp
  rfl

/-- At entry the loop's array 6 is argument 4. -/
theorem e6 : entryContents preI m c (Proc.devRef .tc main_v46_6) = m ((c.tc : Thread nD τ).loc main_arg4) := by
  simp only [entryContents, afterL_cons, afterL_nil]
  after_reads_simp
  rfl

/-- At entry the loop's array 7 is argument 9. -/
theorem e7 : entryContents preI m c (Proc.devRef .tc main_v46_7) = m ((c.tc : Thread nD τ).loc main_arg9) := by
  simp only [entryContents, afterL_cons, afterL_nil]
  after_reads_simp
  rfl

/-- At entry the loop's array 8 is argument 7. -/
theorem e8 : entryContents preI m c (Proc.devRef .tc main_v46_8) = m ((c.tc : Thread nD τ).loc main_arg7) := by
  simp only [entryContents, afterL_cons, afterL_nil]
  after_reads_simp
  rfl

/-- At entry the loop's array 9 is argument 8. -/
theorem e9 : entryContents preI m c (Proc.devRef .tc main_v46_9) = m ((c.tc : Thread nD τ).loc main_arg8) := by
  simp only [entryContents, afterL_cons, afterL_nil]
  after_reads_simp
  rfl

/-- At entry the loop's array 10 is argument 10. -/
theorem e10 : entryContents preI m c (Proc.devRef .tc main_v46_10) = m ((c.tc : Thread nD τ).loc main_arg10) := by
  simp only [entryContents, afterL_cons, afterL_nil]
  after_reads_simp
  rfl

/-- At the loop's entry every row holds the initial state. -/
theorem holds_entry : Holds (par m c) (xT m c) (m ((c.tc : Thread nD τ).loc main_arg7)) (m ((c.tc : Thread nD τ).loc main_arg8)) (fun _ => Row.init)
    (entryContents preI m c) where
  h0 := e0 m c
  h1 := e1 m c
  h2 := e2 m c
  h3 := e3 m c
  h4 := e4 m c
  h5 := e5 m c
  h6 := e6 m c
  h7 := e7 m c
  h8 := e8 m c
  h9 := e9 m c
  h10 := e10 m c
  h12 := fun b j d => (e12 m c b j d).trans (if_neg (lt_irrefl 0)).symm
  h13 := e13 m c
  h14 := e14 m c
  h15 := e15 m c

/-- The tokens of one row, by step. -/
def toks (b : Fin 64) (k : ℕ) : BitVec 32 := if h : k < 32 then xT m c (ix2 ⟨k, h⟩ b) else 0#32

/-- The loop's condition leaves alone what it does not write. -/
theorem cond_keep (V : Valuation τ sig (Elt Ideal)) (r : Ref sig .tc) (h : r ∉ condOps_W) : after condOps V (Proc.devRef .tc r) = V (Proc.devRef .tc r) :=
  after_of_writes_sub condOps V condOps_writes h

/-- Evaluating the loop's condition keeps the invariant. -/
theorem Holds.cond {P : Par} {xT : S32x64.Idx → BitVec 32} {Wp : S512x8192.Idx → EReal} {bp : S8192.Idx → EReal} {s : Fin 64 → Row}
    {X : Valuation τ sig (Elt Ideal)} (H : Holds P xT Wp bp s X) : Holds P xT Wp bp s (after condOps X) where
  h0 := (cond_keep X main_v46_0 (by decide +kernel)).trans H.h0
  h1 := fun b => (congrFun (cond_keep X main_v46_1 (by decide +kernel)) _).trans (H.h1 b)
  h2 := (cond_keep X main_v46_2 (by decide +kernel)).trans H.h2
  h3 := (cond_keep X main_v46_3 (by decide +kernel)).trans H.h3
  h4 := (cond_keep X main_v46_4 (by decide +kernel)).trans H.h4
  h5 := (cond_keep X main_v46_5 (by decide +kernel)).trans H.h5
  h6 := (cond_keep X main_v46_6 (by decide +kernel)).trans H.h6
  h7 := (cond_keep X main_v46_7 (by decide +kernel)).trans H.h7
  h8 := (cond_keep X main_v46_8 (by decide +kernel)).trans H.h8
  h9 := (cond_keep X main_v46_9 (by decide +kernel)).trans H.h9
  h10 := (cond_keep X main_v46_10 (by decide +kernel)).trans H.h10
  h12 := fun b j d => (congrFun (cond_keep X main_v46_12 (by decide +kernel)) _).trans (H.h12 b j d)
  h13 := fun b => (congrFun (cond_keep X main_v46_13 (by decide +kernel)) _).trans (H.h13 b)
  h14 := fun b n => (congrFun (cond_keep X main_v46_14 (by decide +kernel)) _).trans (H.h14 b n)
  h15 := fun b n => (congrFun (cond_keep X main_v46_15 (by decide +kernel)) _).trans (H.h15 b n)

/-- The state of row `b` before trip `k`. -/
abbrev st (b : Fin 64) (k : ℕ) : Row := runRow (par m c) (toks m c b) k

/-- The contents one trip later are the trip applied to the contents before it. -/
theorem atK_succ (k : ℕ) : atK m (k + 1) c = Y16 (after condOps (atK m k c)) := rfl

/-- After `k` trips the loop holds the recurrence's state after `k` steps. -/
theorem holds_atK : ∀ k, k ≤ 32 → Holds (par m c) (xT m c) (m ((c.tc : Thread nD τ).loc main_arg7)) (m ((c.tc : Thread nD τ).loc main_arg8))
    (fun b => st m c b k) (atK m k c)
  | 0, _ => holds_entry m c
  | k + 1, hk => by
    have H := (holds_atK k (by omega)).cond
    have h := holds_step H ⟨k, by omega⟩ ?_ (fun b => ?_)
    · rw [atK_succ]
      have e : (fun b => st m c b (k + 1)) = fun b => step (par m c) (xT m c (ix2 ⟨k, by omega⟩ b)) (st m c b k) := by
        funext b
        show step _ (toks m c b k) _ = _
        rw [toks, dif_pos (by omega)]
      rw [e]
      exact h
    · refine (cond_keep _ main_v46_11 (by decide +kernel)).trans ((atK_ctr m c k).trans ?_)
      funext _
      rw [Scf.iv]
      simp
    · exact (runRow_p_le (par m c) (toks m c b) k).trans (by omega)

/-- The logits' row of one step. -/
def logit (P : Par) (Wp : S512x8192.Idx → EReal) (bp : S8192.Idx → EReal) (w : BitVec 32) (s : Row) (v : Fin 8192) : EReal :=
  (∑ n : Fin 512, Ideal.tanh (ht' P w s n) * Wp (ix2 n v)) + bp (ix1 v)

/-- Before every trip the steps already taken have their rows of the three results. -/
theorem rows_atK : ∀ k, k ≤ 32 → ∀ (t : Fin 32), t.val < k → ∀ b : Fin 64,
    (∀ v : Fin 8192, atK m k c (Proc.devRef .tc main_v46_16) (ix3 t b v)
      = logit (par m c) (m ((c.tc : Thread nD τ).loc main_arg7)) (m ((c.tc : Thread nD τ).loc main_arg8)) (xT m c (ix2 t b)) (st m c b t.val) v)
    ∧ (∀ i : Fin 2, atK m k c (Proc.devRef .tc main_v46_17) (ix3 t b i) = BitVec.ofNat 32 (pm (par m c) (xT m c (ix2 t b)) (st m c b t.val) i))
    ∧ (∀ (i : Fin 2) (d : Fin 256), atK m k c (Proc.devRef .tc main_v46_18) (ix4 t b i d) = codeAt (par m c) (xT m c (ix2 t b)) (st m c b t.val) i d)
  | 0, _, t, ht, _ => absurd ht (Nat.not_lt_zero _)
  | k + 1, hk, t, ht, b => by
    have H := (holds_atK m c k (by omega)).cond
    have hctr : after condOps (atK m k c) (Proc.devRef .tc main_v46_11) = fun _ => BitVec.ofNat 32 (⟨k, by omega⟩ : Fin 32).val := by
      refine (cond_keep _ main_v46_11 (by decide +kernel)).trans ((atK_ctr m c k).trans ?_)
      funext _
      rw [Scf.iv]
      simp
    have hp : ∀ b, (st m c b k).p ≤ 60 := fun b => (runRow_p_le (par m c) (toks m c b) k).trans (by omega)
    rw [atK_succ]
    by_cases htk : t = ⟨k, by omega⟩
    · obtain rfl : k = t.val := (congrArg Fin.val htk).symm
      refine ⟨fun v => ?_, fun i => ?_, fun i d => ?_⟩
      · refine (f187 H _ hctr hp _ b v).trans (if_pos rfl)
      · refine (f188 H _ hctr hp _ b i).trans (if_pos rfl)
      · refine (f189 H _ hctr hp _ b i d).trans (if_pos rfl)
    · have ht' : t.val < k := by
        have : t.val ≠ k := fun h => htk (Fin.ext h)
        omega
      obtain ⟨i1, i2, i3⟩ := rows_atK k (by omega) t ht' b
      refine ⟨fun v => ?_, fun i => ?_, fun i d => ?_⟩
      · refine (f187 H _ hctr hp _ b v).trans ((if_neg htk).trans ?_)
        rw [cond_keep _ main_v46_16 (by decide +kernel)]
        exact i1 v
      · refine (f188 H _ hctr hp _ b i).trans ((if_neg htk).trans ?_)
        rw [cond_keep _ main_v46_17 (by decide +kernel)]
        exact i2 i
      · refine (f189 H _ hctr hp _ b i d).trans ((if_neg htk).trans ?_)
        rw [cond_keep _ main_v46_18 (by decide +kernel)]
        exact i3 i d

/-- At the end the first result holds the recurrence's logits. -/
theorem final_47 (b : Fin 64) (t : Fin 32) (v : Fin 8192) : finalContents condOps preI bodyI postI 32 m c (Proc.devRef .tc main_v47) (ix3 b t v)
    = logit (par m c) (m ((c.tc : Thread nD τ).loc main_arg7)) (m ((c.tc : Thread nD τ).loc main_arg8)) (xT m c (ix2 t b)) (st m c b t.val) v := by
  simp only [finalContents, afterL_cons, afterL_nil]
  after_reads_at
  exact (rows_atK m c 32 (by omega) t t.isLt b).1 v

/-- At the end the second result holds the recurrence's push masks. -/
theorem final_48 (b : Fin 64) (t : Fin 32) (i : Fin 2) : finalContents condOps preI bodyI postI 32 m c (Proc.devRef .tc main_v48) (ix3 b t i)
    = BitVec.ofNat 32 (pm (par m c) (xT m c (ix2 t b)) (st m c b t.val) i) := by
  simp only [finalContents, afterL_cons, afterL_nil]
  after_reads_at
  exact (rows_atK m c 32 (by omega) t t.isLt b).2.1 i

/-- At the end the third result holds the recurrence's codes. -/
theorem final_49 (b : Fin 64) (t : Fin 32) (i : Fin 2) (d : Fin 256) : finalContents condOps preI bodyI postI 32 m c (Proc.devRef .tc main_v49) (ix4 b t i d)
    = codeAt (par m c) (xT m c (ix2 t b)) (st m c b t.val) i d := by
  simp only [finalContents, afterL_cons, afterL_nil]
  after_reads_at
  exact (rows_atK m c 32 (by omega) t t.isLt b).2.2 i d

end Cert.ReferenceIdeal.Hand

end
-- ==== Proof.Finite.lean ====
/-
  The precondition: what it says of the codebook.
-/
module

public import proofs.«01_k».proof.Pre_finite_codebook
public import proofs.«01_k».proof.Proof.KQuant
public import Idealize.ShloMosaic.Lib.ReduceAll

@[expose] public section

set_option maxRecDepth 16384

noncomputable section

open Idealize.ShloMosaic

namespace Cert.Pre_finite_codebook

/-- The function's shape relations hold. -/
theorem facts : Facts where
  bcast_S_S1024x256 := by decide
  reducesTo_S1024x256_S_d0_1 := by decide
  h_S_ := by decide

/-- The empty shape has one index. -/
instance : Subsingleton S_.Idx := ⟨fun a b => funext fun i => i.elim0⟩

variable [Facts]

/-- Where the function is 1, every codebook entry is a real number. -/
theorem finite_of_fn (a0 : FVec Ideal S8192x256 .f32) (a1 a2 a3 a4 a5 a6 : FVec Ideal S512x512 .f32) (a7 : FVec Ideal S512x8192 .f32)
    (a8 : FVec Ideal S8192 .f32) (a9 : FVec Ideal S1024x512 .f32) (a10 : FVec Ideal S1024x256 .f32) (a11 : IVec S64x32 32)
    (h : fn (F := Ideal) a0 a1 a2 a3 a4 a5 a6 a7 a8 a9 a10 a11 = fun _ => 1#1) (i : S1024x256.Idx) :
    (a10 i : EReal) ≠ ⊤ ∧ (a10 i : EReal) ≠ ⊥ := by
  have e := congrFun h (fun a => a.elim0)
  have e1 := Host.reduce_andi_all _ _ _ _ _ e i
  have e2 : FloatOps.cmpf (F := Ideal) (φ := .f32) .olt (max (a10 i : EReal) (-(a10 i : EReal))) (Ideal.ofBits .f32 0x7F800000#32) = 1#1 := e1
  rw [Cert.Rnn.cmpf_olt, show Ideal.ofBits .f32 0x7F800000#32 = (⊤ : EReal) by simp [Ideal.ofBits, Ideal.ieee]] at e2
  have lt : max (a10 i : EReal) (-(a10 i : EReal)) < ⊤ := by
    by_contra hn
    rw [if_neg hn] at e2
    exact absurd e2 (by decide)
  obtain ⟨l1, l2⟩ := max_lt_iff.1 lt
  refine ⟨l1.ne, fun hb => ?_⟩
  rw [hb] at l2
  simp at l2

end Cert.Pre_finite_codebook

end
-- ==== Proof.Values.lean ====
/-
  The value claim: the kernel's ideal form and the plain reference end with equal results, each the recurrence's.
-/
module

public import proofs.«01_k».proof.Defs
public import proofs.«01_k».proof.Proof.KRun
public import proofs.«01_k».proof.Proof.RResult
public import proofs.«01_k».proof.Proof.Finite

@[expose] public section

set_option maxRecDepth 16384

noncomputable section

open Idealize.ShloMosaic Idealize.ShloMosaic.StableHlo Idealize.SL.Sem Cert.Rnn

namespace Cert.Values

/-- A memory of the kernel's program. -/
abbrev KMem := (ℓ : Loc Cert.KernelIdeal.nD Cert.KernelIdeal.τ Cert.KernelIdeal.sig) → Buf (Elt Ideal) ℓ
/-- A memory of the reference's program. -/
abbrev RMem := (ℓ : Loc Cert.ReferenceIdeal.nD Cert.ReferenceIdeal.τ Cert.ReferenceIdeal.sig) → Buf (Elt Ideal) ℓ

variable (m : KMem) (m' : RMem) (c : Dev Cert.KernelIdeal.nD)

/-- The reference's memory has the kernel's arguments on a device. -/
abbrev SameArgs : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable (h : SameArgs m m' c)

include h

/-- Both programs read the same weights. -/
theorem par_eq : Cert.ReferenceIdeal.Hand.par m' c = Cert.KernelIdeal.Hand.kpar m c := by
  obtain ⟨h0, h1, h2, h3, h4, -, -, -, -, h9, h10, -⟩ := h
  unfold Cert.ReferenceIdeal.Hand.par Cert.KernelIdeal.Hand.kpar
  rw [h0, h1, h2, h3, h4, h9, h10]

/-- Both programs read the same tokens. -/
theorem tok_eq (b : Fin 64) (t : Fin 32) : Cert.ReferenceIdeal.Hand.xT m' c (ix2 t b) = Cert.KernelIdeal.Hand.ktok m c b t :=
  congrFun h.2.2.2.2.2.2.2.2.2.2.2 (ix2 b t)

/-- Both programs feed the recurrence the same token sequence. -/
theorem toks_eq (b : Fin 64) : Cert.ReferenceIdeal.Hand.toks m' c b = Cert.KernelIdeal.Hand.tokSeq (Cert.KernelIdeal.Hand.ktok m c) b := by
  funext k
  unfold Cert.ReferenceIdeal.Hand.toks Cert.KernelIdeal.Hand.tokSeq
  by_cases hk : k < 32
  · rw [dif_pos hk, dif_pos hk, tok_eq m m' c h]
  · rw [dif_neg hk, dif_neg hk]

/-- Both programs follow the same states of the recurrence. -/
theorem st_eq (b : Fin 64) (k : ℕ) : Cert.ReferenceIdeal.Hand.st m' c b k
    = Cert.KernelIdeal.Hand.rowAt (Cert.KernelIdeal.Hand.kpar m c) (Cert.KernelIdeal.Hand.ktok m c) b k := by
  unfold Cert.ReferenceIdeal.Hand.st Cert.KernelIdeal.Hand.rowAt
  rw [par_eq m m' c h, toks_eq m m' c h]

variable (ρ : Dev Cert.KernelIdeal.nD → PrngReg) (hf : ∀ i, (Cert.KernelIdeal.Hand.kpar m c).cb i ≠ ⊤ ∧ (Cert.KernelIdeal.Hand.kpar m c).cb i ≠ ⊥)

include hf

open Cert.ReferenceIdeal.Value Cert.ReferenceIdeal.Gen Cert.ReferenceIdeal.Hand in
/-- The logits agree. -/
theorem eq0 (i : Cert.ReferenceIdeal.S64x32x8192.Idx) : finalContents condOps preI bodyI postI 32 m' c (Proc.devRef .tc Cert.ReferenceIdeal.main_v47) i
    = Cert.KernelIdeal.Gen.W7 m ρ c (Proc.devRef .tc Cert.KernelIdeal.main_v12) i := by
  obtain ⟨b, t, v, rfl⟩ : ∃ (b : Fin 64) (t : Fin 32) (v : Fin 8192), i = ix3 b t v := ⟨i 0, i 1, i 2, by idx_vars i⟩
  refine (final_47 m' c b t v).trans (Eq.trans ?_ (Cert.KernelIdeal.Hand.res0 m ρ c hf b t v).symm)
  rw [par_eq m m' c h, st_eq m m' c h, tok_eq m m' c h, h.2.2.2.2.2.2.2.1, h.2.2.2.2.2.2.2.2.1]
  rfl

open Cert.ReferenceIdeal.Value Cert.ReferenceIdeal.Gen Cert.ReferenceIdeal.Hand in
/-- The push masks agree. -/
theorem eq1 (i : Cert.ReferenceIdeal.S64x32x2.Idx) : finalContents condOps preI bodyI postI 32 m' c (Proc.devRef .tc Cert.ReferenceIdeal.main_v48) i
    = Cert.KernelIdeal.Gen.W7 m ρ c (Proc.devRef .tc Cert.KernelIdeal.main_v9_1) i := by
  obtain ⟨b, t, v, rfl⟩ : ∃ (b : Fin 64) (t : Fin 32) (v : Fin 2), i = ix3 b t v := ⟨i 0, i 1, i 2, by idx_vars i⟩
  refine (final_48 m' c b t v).trans (Eq.trans ?_ (Cert.KernelIdeal.Hand.res1 m ρ c hf b t v).symm)
  rw [par_eq m m' c h, st_eq m m' c h, tok_eq m m' c h]
  rfl

open Cert.ReferenceIdeal.Value Cert.ReferenceIdeal.Gen Cert.ReferenceIdeal.Hand in
/-- The codes agree. -/
theorem eq2 (i : Cert.ReferenceIdeal.S64x32x2x256.Idx) : finalContents condOps preI bodyI postI 32 m' c (Proc.devRef .tc Cert.ReferenceIdeal.main_v49) i
    = Cert.KernelIdeal.Gen.W7 m ρ c (Proc.devRef .tc Cert.KernelIdeal.main_v14) i := by
  obtain ⟨b, t, v, d, rfl⟩ : ∃ (b : Fin 64) (t : Fin 32) (v : Fin 2) (d : Fin 256), i = ix4 b t v d := ⟨i 0, i 1, i 2, i 3, by idx_vars i⟩
  refine (final_49 m' c b t v d).trans (Eq.trans ?_ (Cert.KernelIdeal.Hand.res2 m ρ c hf b t v d).symm)
  rw [par_eq m m' c h, st_eq m m' c h, tok_eq m m' c h]
  rfl

omit h hf

/-- From equal arguments, the codebook's entries real numbers, both run, and end with equal results and their arguments unchanged. -/
theorem algebraic : Cert.algebraic_KernelIdeal_ReferenceIdeal_pre_finite_codebook (hKernelIdeal := Cert.KernelIdeal.Gen.facts)
    (hReferenceIdeal := Cert.ReferenceIdeal.Gen.facts) (hPre_finite_codebook := Cert.Pre_finite_codebook.facts) := by
  intro m ρ m' ρ' hpre h
  have hf : ∀ c, ∀ i, (Cert.KernelIdeal.Hand.kpar m c).cb i ≠ ⊤ ∧ (Cert.KernelIdeal.Hand.kpar m c).cb i ≠ ⊥ := fun c i =>
    @Cert.Pre_finite_codebook.finite_of_fn Cert.Pre_finite_codebook.facts _ _ _ _ _ _ _ _ _ _ _ _ (hpre c) i
  refine ⟨fun c => Cert.KernelIdeal.Gen.W7 m ρ c (Proc.devRef .tc Cert.KernelIdeal.main_v12),
    fun c => Cert.KernelIdeal.Gen.W7 m ρ c (Proc.devRef .tc Cert.KernelIdeal.main_v9_1),
    fun c => Cert.KernelIdeal.Gen.W7 m ρ c (Proc.devRef .tc Cert.KernelIdeal.main_v14), ?_, ?_⟩
  · exact (θ_run _ _ _).mono (fun r r1 c => ⟨r1 c Cert.KernelIdeal.main_v12 (by decide), r1 c Cert.KernelIdeal.main_v9_1 (by decide),
        r1 c Cert.KernelIdeal.main_v14 (by decide),
        (r1 c Cert.KernelIdeal.main_arg0 (by decide)).trans (Cert.KernelIdeal.Gen.W7_main_arg0 m ρ c),
        (r1 c Cert.KernelIdeal.main_arg1 (by decide)).trans (Cert.KernelIdeal.Gen.W7_main_arg1 m ρ c),
        (r1 c Cert.KernelIdeal.main_arg2 (by decide)).trans (Cert.KernelIdeal.Gen.W7_main_arg2 m ρ c),
        (r1 c Cert.KernelIdeal.main_arg3 (by decide)).trans (Cert.KernelIdeal.Gen.W7_main_arg3 m ρ c),
        (r1 c Cert.KernelIdeal.main_arg4 (by decide)).trans (Cert.KernelIdeal.Gen.W7_main_arg4 m ρ c),
        (r1 c Cert.KernelIdeal.main_arg5 (by decide)).trans (Cert.KernelIdeal.Gen.W7_main_arg5 m ρ c),
        (r1 c Cert.KernelIdeal.main_arg6 (by decide)).trans (Cert.KernelIdeal.Gen.W7_main_arg6 m ρ c),
        (r1 c Cert.KernelIdeal.main_arg7 (by decide)).trans (Cert.KernelIdeal.Gen.W7_main_arg7 m ρ c),
        (r1 c Cert.KernelIdeal.main_arg8 (by decide)).trans (Cert.KernelIdeal.Gen.W7_main_arg8 m ρ c),
        (r1 c Cert.KernelIdeal.main_arg9 (by decide)).trans (Cert.KernelIdeal.Gen.W7_main_arg9 m ρ c),
        (r1 c Cert.KernelIdeal.main_arg10 (by decide)).trans (Cert.KernelIdeal.Gen.W7_main_arg10 m ρ c),
        (r1 c Cert.KernelIdeal.main_arg11 (by decide)).trans (Cert.KernelIdeal.Gen.W7_main_arg11 m ρ c)⟩) (Cert.KernelIdeal.Hand.run_fold m ρ)
  · exact (θ_run _ _ _).mono (fun r r1 c => ⟨(r1 c Cert.ReferenceIdeal.main_v47 (by decide)).trans (funext fun i => eq0 m m' c (h c) ρ (hf c) i),
        (r1 c Cert.ReferenceIdeal.main_v48 (by decide)).trans (funext fun i => eq1 m m' c (h c) ρ (hf c) i),
        (r1 c Cert.ReferenceIdeal.main_v49 (by decide)).trans (funext fun i => eq2 m m' c (h c) ρ (hf c) i),
        (r1 c Cert.ReferenceIdeal.main_arg0 (by decide)).trans (Cert.ReferenceIdeal.Hand.final_args m' c Cert.ReferenceIdeal.main_arg0 (by decide)),
        (r1 c Cert.ReferenceIdeal.main_arg1 (by decide)).trans (Cert.ReferenceIdeal.Hand.final_args m' c Cert.ReferenceIdeal.main_arg1 (by decide)),
        (r1 c Cert.ReferenceIdeal.main_arg2 (by decide)).trans (Cert.ReferenceIdeal.Hand.final_args m' c Cert.ReferenceIdeal.main_arg2 (by decide)),
        (r1 c Cert.ReferenceIdeal.main_arg3 (by decide)).trans (Cert.ReferenceIdeal.Hand.final_args m' c Cert.ReferenceIdeal.main_arg3 (by decide)),
        (r1 c Cert.ReferenceIdeal.main_arg4 (by decide)).trans (Cert.ReferenceIdeal.Hand.final_args m' c Cert.ReferenceIdeal.main_arg4 (by decide)),
        (r1 c Cert.ReferenceIdeal.main_arg5 (by decide)).trans (Cert.ReferenceIdeal.Hand.final_args m' c Cert.ReferenceIdeal.main_arg5 (by decide)),
        (r1 c Cert.ReferenceIdeal.main_arg6 (by decide)).trans (Cert.ReferenceIdeal.Hand.final_args m' c Cert.ReferenceIdeal.main_arg6 (by decide)),
        (r1 c Cert.ReferenceIdeal.main_arg7 (by decide)).trans (Cert.ReferenceIdeal.Hand.final_args m' c Cert.ReferenceIdeal.main_arg7 (by decide)),
        (r1 c Cert.ReferenceIdeal.main_arg8 (by decide)).trans (Cert.ReferenceIdeal.Hand.final_args m' c Cert.ReferenceIdeal.main_arg8 (by decide)),
        (r1 c Cert.ReferenceIdeal.main_arg9 (by decide)).trans (Cert.ReferenceIdeal.Hand.final_args m' c Cert.ReferenceIdeal.main_arg9 (by decide)),
        (r1 c Cert.ReferenceIdeal.main_arg10 (by decide)).trans (Cert.ReferenceIdeal.Hand.final_args m' c Cert.ReferenceIdeal.main_arg10 (by decide)),
        (r1 c Cert.ReferenceIdeal.main_arg11 (by decide)).trans (Cert.ReferenceIdeal.Hand.final_args m' c Cert.ReferenceIdeal.main_arg11 (by decide))⟩) (Cert.ReferenceIdeal.Value.run_fold (F := Ideal) m' ρ')

end Cert.Values

end
-- ==== Proof.lean ====
/- The claims of this certificate, proved. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Values

@[expose] public section

noncomputable section

open Idealize.ShloMosaic Idealize.SL.Sem

namespace Cert.Proof

/-- The kernel, its ideal form and the reference run with their arguments unchanged; the ideal form is the kernel's; and from equal arguments
    the ideal form and the reference end with equal results, all three of them. -/
theorem claim : Cert.Claim := ⟨Cert.Kernel.Gen.facts, Cert.KernelIdeal.Gen.facts, Cert.ReferenceIdeal.Gen.facts, Cert.Pre_finite_codebook.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Hand.frame m ρ,
  fun m ρ _ => Cert.ReferenceIdeal.Hand.frame m ρ,
  IdealRules.bf16_pack.statement _,
  Cert.Values.algebraic⟩

end Cert.Proof

end
